-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_within_a_sixteenth_pre_in_range [hKernelIdeal : Cert.KernelIdeal.Facts] [hPre_in_range : Cert.Pre_in_range.Facts] [hPost_within_a_sixteenth : Cert.Post_within_a_sixteenth.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_within_a_sixteenth.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPost_within_a_sixteenth : Cert.Post_within_a_sixteenth.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ holds_KernelIdeal_within_a_sixteenth_pre_in_range (hKernelIdeal := hKernelIdeal) (hPre_in_range := hPre_in_range) (hPost_within_a_sixteenth := hPost_within_a_sixteenth)
-- ==== Post_within_a_sixteenth.lean ====
abbrev S32x1000000 : Shape := ⟨2, ![32, 1000000]⟩
abbrev S_ : Shape := ⟨0, ![]⟩
abbrev S32 : Shape := ⟨1, ![32]⟩
abbrev S32x1 : Shape := ⟨2, ![32, 1]⟩

class Facts : Prop where
  reducesTo_S32x1000000_S32_d1 : S32x1000000.ReducesTo [1] S32
  h_S_ : 0 < S_.numel
  bcast_S32_S32x1_0 : S32.BroadcastsInDim S32x1 (![0] : Fin 1 → Fin S32x1.rank)
  bcast_S32x1_S32x1000000_0_1 : S32x1.BroadcastsInDim S32x1000000 (![0, 1] : Fin 2 → Fin S32x1000000.rank)
  bcast_S_S32x1000000 : S_.BroadcastsInDim S32x1000000 (![] : Fin 0 → Fin S32x1000000.rank)

variable [Facts]

def fn {F : FTy → Type} [FloatOps F] (main_arg0 : FVec F S32x1000000 .f32) (main_arg1 : FVec F S32x1000000 .f32) : IVec S32x1000000 1 :=
  let main_cst : FVec F S_ .f32 := constant S_ .f32 0xFF800000#32
  let main_v0 : FVec F S32 .f32 := (fun x v => Host.reduce FloatOps.maximumf x v reducesTo_S32x1000000_S32_d1 h_S_) main_arg0 main_cst
  let main_v1 : FVec F S32x1 .f32 := broadcastInDim S32x1 ![0] bcast_S32_S32x1_0 main_v0
  let main_v2 : FVec F S32x1000000 .f32 := broadcastInDim S32x1000000 ![0, 1] bcast_S32x1_S32x1000000_0_1 main_v1
  let main_v3 : FVec F S32x1000000 .f32 := subf main_arg0 main_v2
  let main_v4 : FVec F S32x1000000 .f32 := Host.exp main_v3
  let main_cst_0 : FVec F S_ .f32 := constant S_ .f32 0x00000000#32
  let main_v5 : FVec F S32 .f32 := (fun x v => Host.reduceAdd x v reducesTo_S32x1000000_S32_d1 h_S_) main_v4 main_cst_0
  let main_v6 : FVec F S32x1 .f32 := broadcastInDim S32x1 ![0] bcast_S32_S32x1_0 main_v5
  let main_v7 : FVec F S32x1 .f32 := Host.log main_v6
  let main_v8 : FVec F S32x1 .f32 := addf main_v1 main_v7
  let main_v9 : FVec F S32x1000000 .f32 := broadcastInDim S32x1000000 ![0, 1] bcast_S32x1_S32x1000000_0_1 main_v8
  let main_v10 : FVec F S32x1000000 .f32 := subf main_arg0 main_v9
  let main_v11 : FVec F S32x1000000 .f32 := subf main_arg1 main_v10
  let main_v12 : FVec F S32x1000000 .f32 := Host.absf main_v11
  let main_cst_1 : FVec F S_ .f32 := constant S_ .f32 0x3D800000#32
  let main_v13 : FVec F S32x1000000 .f32 := broadcastInDim S32x1000000 ![] bcast_S_S32x1000000 main_cst_1
  let main_v14 : IVec S32x1000000 1 := cmpf .ole main_v12 main_v13
  main_v14
-- ==== Pre_in_range.lean ====
abbrev S32x1000000 : Shape := ⟨2, ![32, 1000000]⟩
abbrev S_ : Shape := ⟨0, ![]⟩

class Facts : Prop where
  bcast_S_S32x1000000 : S_.BroadcastsInDim S32x1000000 (![] : Fin 0 → Fin S32x1000000.rank)

variable [Facts]

def fn {F : FTy → Type} [FloatOps F] (main_arg0 : FVec F S32x1000000 .f32) : IVec S32x1000000 1 :=
  let main_v0 : FVec F S32x1000000 .f32 := Host.absf main_arg0
  let main_cst : FVec F S_ .f32 := constant S_ .f32 0x417F0000#32
  let main_v1 : FVec F S32x1000000 .f32 := broadcastInDim S32x1000000 ![] bcast_S_S32x1000000 main_cst
  let main_v2 : IVec S32x1000000 1 := cmpf .olt main_v0 main_v1
  main_v2
-- ==== Kernel.lean ====
abbrev S32x1000000 : Shape := ⟨2, ![32, 1000000]⟩
abbrev S32x31744 : Shape := ⟨2, ![32, 31744]⟩
abbrev S32x253952 : Shape := ⟨2, ![32, 253952]⟩
abbrev S32x128 : Shape := ⟨2, ![32, 128]⟩
abbrev S32x7936 : Shape := ⟨2, ![32, 7936]⟩
abbrev S32x248x128 : Shape := ⟨3, ![32, 248, 128]⟩
abbrev S32 : Shape := ⟨1, ![32]⟩
abbrev S32x1 : Shape := ⟨2, ![32, 1]⟩

abbrev nBuf : Space → Nat
  | .hbm => 2
  | .vmem => 6
  | .smem => 0
  | _ => 0

abbrev bufTy : (tb : Table) → Fin (tcTables nBuf tb) → BufTy
  | .hbm, ⟨0, _⟩ => ⟨S32x1000000, .f32⟩
  | .hbm, ⟨1, _⟩ => ⟨S32x1000000, .f32⟩
  | .local _ .vmem, ⟨0, _⟩ => ⟨S32x31744, .f32⟩
  | .local _ .vmem, ⟨1, _⟩ => ⟨S32x31744, .f32⟩
  | .local _ .vmem, ⟨2, _⟩ => ⟨S32x31744, .f32⟩
  | .local _ .vmem, ⟨3, _⟩ => ⟨S32x31744, .f32⟩
  | .local _ .vmem, ⟨4, _⟩ => ⟨S32x253952, .i32⟩
  | .local _ .vmem, ⟨5, _⟩ => ⟨S32x128, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let c0_16 : Index := 0#32
  let arg1 : BitVec 32 := BitVec.ofNat 32 (i 1).val
  let c7936_i32 : BitVec 32 := 7936#32
  let v60 : BitVec 32 := Scalar.muli arg1 c7936_i32
  let v61 : Index := Scalar.indexCast v60
  ![0, v61.toNat]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 2 → Nat :=
  let c0_4 : Index := 0#32
  let arg1 : BitVec 32 := BitVec.ofNat 32 (i 1).val
  let c7936_i32 : BitVec 32 := 7936#32
  let v12 : BitVec 32 := Scalar.muli arg1 c7936_i32
  let v13 : Index := Scalar.indexCast v12
  ![0, v13.toNat]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![c0_i32.toNat, v0.toNat]

abbrev stage0_0 : Fin 2 → Memref sig .tc .vmem S32x31744 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x31744 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S_, .f32⟩
  | .hbm, ⟨2, _⟩ => ⟨S32x1000000, .f32⟩
  | .hbm, ⟨3, _⟩ => ⟨S32x1000000, .f32⟩
  | .hbm, ⟨4, _⟩ => ⟨S_, .f32⟩
  | .hbm, ⟨5, _⟩ => ⟨S32x1000000, .f32⟩
  | .hbm, ⟨6, _⟩ => ⟨S32x1000000, .f32⟩
  | .hbm, ⟨7, _⟩ => ⟨S32x1000000, .f32⟩
  | .hbm, ⟨8, _⟩ => ⟨S_, .f32⟩
  | .hbm, ⟨9, _⟩ => ⟨S32x1000000, .f32⟩
  | .hbm, ⟨10, _⟩ => ⟨S32x1000000, .f32⟩
  | .hbm, ⟨11, _⟩ => ⟨S_, .f32⟩
  | .hbm, ⟨12, _⟩ => ⟨S32, .f32⟩
  | .hbm, ⟨13, _⟩ => ⟨S32x1, .f32⟩
  | .hbm, ⟨14, _⟩ => ⟨S32x1000000, .f32⟩
  | .hbm, ⟨15, _⟩ => ⟨S32x1000000, .f32⟩
  | .hbm, ⟨16, _⟩ => ⟨S32x1000000, .f32⟩
  | .hbm, ⟨17, _⟩ => ⟨S_, .f32⟩
  | .hbm, ⟨18, _⟩ => ⟨S32, .f32⟩
  | .hbm, ⟨19, _⟩ => ⟨S32x1, .f32⟩
  | .hbm, ⟨20, _⟩ => ⟨S32x1, .f32⟩
  | .hbm, ⟨21, _⟩ => ⟨S32x1, .f32⟩
  | .hbm, ⟨22, _⟩ => ⟨S32x1000000, .f32⟩
  | .hbm, ⟨23, _⟩ => ⟨S32x1000000, .f32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Stores.lean ====
/-
  What a buffer holds after a few stores through rectangles, as a reader of the buffer sees it.
-/
module

public import Idealize.ShloMosaic.Lib.Pipeline.FrameBody
public import Idealize.ShloMosaic.Lib.Pipeline.Value

@[expose] public section

noncomputable section

namespace Cert.Stores

open Idealize.ShloMosaic

variable {sig : RefSig} {κ : Kind} {sp : Space} {s : Shape} {e : EltTy} {Val : EltTy → Type}

/-- After one store the rectangle holds what was stored, every other element what it held. -/
theorem one (v : View sig κ sp s e) (f : v.ty.Contents Val) (X : s.Idx → Val e) (hf : v.read Val f = X)
    (r : Rect s) (w : r.shape.Idx → Val e) :
    (∀ x, v.read Val (v.writes Val f [⟨r, w⟩]) (r.emb x) = w x)
      ∧ ∀ y, y ∉ r.set → v.read Val (v.writes Val f [⟨r, w⟩]) y = X y :=
  ⟨fun x => View.read_writes_cons_emb v f r w [] x, fun y hy => by
    rw [View.read_writes_cons_miss v f ⟨r, w⟩ [] y hy, View.writes_nil, hf]⟩

/-- A load of the whole shape reads what the buffer holds. -/
theorem load (v : View sig κ sp s e) (f : v.ty.Contents Val) (X : s.Idx → Val e) (hf : v.read Val f = X)
    {off : Fin s.rank → Nat} (h : off = fun _ => 0) (inb : ∀ a, off a + s.size a ≤ s.size a) :
    v.readAt Val (Rect.unit off s.size inb).toLoadRect f = X := by
  subst hf; exact View.ld_unit_zero h inb _

/-- One store through the whole shape leaves what was stored. -/
theorem whole [∀ e, Nonempty (Val e)] (v : View sig κ sp s e) (f : v.ty.Contents Val) {off : Fin s.rank → Nat}
    (h : off = fun _ => 0) (inb : ∀ a, off a + s.size a ≤ s.size a) (w : s.Idx → Val e) :
    v.read Val (v.writes Val f [⟨Rect.unit off s.size inb, w⟩]) = w :=
  (View.read_writes_eq_canon v f _ fun y => ⟨_, List.mem_singleton_self _, View.mem_set_unit_zero h inb y⟩).trans
    (View.canon_unit_zero h inb w)

/-- After four stores through rectangles apart from each other, each holds what was stored through it. -/
theorem four (v : View sig κ sp s e) (f : v.ty.Contents Val) (r0 r1 r2 r3 : Rect s)
    (w0 : r0.shape.Idx → Val e) (w1 : r1.shape.Idx → Val e) (w2 : r2.shape.Idx → Val e) (w3 : r3.shape.Idx → Val e)
    (h01 : Disjoint r0.set r1.set) (h02 : Disjoint r0.set r2.set) (h03 : Disjoint r0.set r3.set)
    (h12 : Disjoint r1.set r2.set) (h13 : Disjoint r1.set r3.set) (h23 : Disjoint r2.set r3.set) :
    (∀ x, v.read Val (v.writes Val f [⟨r3, w3⟩, ⟨r2, w2⟩, ⟨r1, w1⟩, ⟨r0, w0⟩]) (r0.emb x) = w0 x)
      ∧ (∀ x, v.read Val (v.writes Val f [⟨r3, w3⟩, ⟨r2, w2⟩, ⟨r1, w1⟩, ⟨r0, w0⟩]) (r1.emb x) = w1 x)
      ∧ (∀ x, v.read Val (v.writes Val f [⟨r3, w3⟩, ⟨r2, w2⟩, ⟨r1, w1⟩, ⟨r0, w0⟩]) (r2.emb x) = w2 x)
      ∧ (∀ x, v.read Val (v.writes Val f [⟨r3, w3⟩, ⟨r2, w2⟩, ⟨r1, w1⟩, ⟨r0, w0⟩]) (r3.emb x) = w3 x) := by
  have far : ∀ {r r' : Rect s}, Disjoint r.set r'.set → ∀ x : r.shape.Idx, r.emb x ∉ r'.set := fun {r r'} h x hx =>
    Finset.disjoint_left.1 h (r.toLoadRect.idx_mem x) hx
  refine ⟨fun x => ?_, fun x => ?_, fun x => ?_, fun x => ?_⟩
  · rw [View.read_writes_cons_miss v f ⟨r3, w3⟩ _ _ (far h03 x), View.read_writes_cons_miss v f ⟨r2, w2⟩ _ _ (far h02 x),
      View.read_writes_cons_miss v f ⟨r1, w1⟩ _ _ (far h01 x), View.read_writes_cons_emb]
  · rw [View.read_writes_cons_miss v f ⟨r3, w3⟩ _ _ (far h13 x), View.read_writes_cons_miss v f ⟨r2, w2⟩ _ _ (far h12 x),
      View.read_writes_cons_emb]
  · rw [View.read_writes_cons_miss v f ⟨r3, w3⟩ _ _ (far h23 x), View.read_writes_cons_emb]
  · rw [View.read_writes_cons_emb]

end Cert.Stores

end
-- ==== Proof.KernelIdealTriples.lean ====
/-
  What one call of the idealized kernel does: the statements and proofs of KernelTriples at the idealization, in its three cases, a first-phase call on a
  whole block of columns, a first-phase call on the last block, and a second-phase call.
-/
module

public import proofs.«01_k».proof.Proof.Gen.KernelIdeal.Frame
public import proofs.«01_k».proof.Proof.Gen.KernelIdeal.Skeleton
public import proofs.«01_k».proof.Proof.KernelFrame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Whether a point's block is not the last one, as the kernel tests it. -/
abbrev notLast (i : grid0.Coords) : BitVec 1 :=
  Scalar.cmpi .ne (Scalar.extui (Scalar.cmpi .slt (BitVec.ofNat 32 (i 1).val) 31#32) : BitVec 32) 0#32
/-- Whether a point's block is the last one, as the kernel tests it. -/
abbrev isLast (i : grid0.Coords) : BitVec 1 :=
  Scalar.cmpi .ne (Scalar.extui (Scalar.cmpi .eq (BitVec.ofNat 32 (i 1).val) 31#32) : BitVec 32) 0#32

/-- The word of codes a first-phase call stores for the block `x`. -/
abbrev packed (x : Vec F S32x31744 .f32) : Vec F S32x7936 .i32 :=
  k0_pay1 (k0_pay5 x) (k0_pay6 x) (k0_pay7 x) (k0_pay8 x)

/-- The columns of the code buffer that a first-phase call writes. -/
abbrev putRect (i : grid0.Coords) (hp : k0_cond1 i = 1#1) : Rect S32x253952 :=
  Rect.unit (s := S32x253952) (k0_off1 i) S32x7936.size (k0_off1_inb i hp)
/-- The columns of the code buffer that a second-phase call reads. -/
abbrev getRect (i : grid0.Coords) (hq : k0_cond4 i = 1#1) : Rect S32x253952 :=
  Rect.unit (s := S32x253952) (k0_off2 i) S32x7936.size (k0_off2_inb i hq)

/-! The four quarters of a block's columns. -/

abbrev quarter0 : Rect S32x31744 := Rect.unit (s := S32x31744) ![0, 0] S32x7936.size inb_S32x31744_S32x7936_0_0
abbrev quarter1 : Rect S32x31744 := Rect.unit (s := S32x31744) ![0, 7936] S32x7936.size inb_S32x31744_S32x7936_0_7936
abbrev quarter2 : Rect S32x31744 := Rect.unit (s := S32x31744) ![0, 15872] S32x7936.size inb_S32x31744_S32x7936_0_15872
abbrev quarter3 : Rect S32x31744 := Rect.unit (s := S32x31744) ![0, 23808] S32x7936.size inb_S32x31744_S32x7936_0_23808

/-- A first-phase call on a whole block: the codes go to the block's columns of the code buffer, the lanes' sums grow. -/
theorem first (c : Dev nD) (E : Set ℕ) (i : grid0.Coords)
    (a2 : Memref sig .tc .vmem S32x31744 .f32) (h2 : a2.IsWhole) (a3 : Memref sig .tc .vmem S32x31744 .f32) (h3 : a3.IsWhole)
    (a4 : Memref sig .tc .vmem S32x253952 .i32) (h4 : a4.IsWhole) (a5 : Memref sig .tc .vmem S32x128 .f32) (h5 : a5.IsWhole)
    (hp : k0_cond1 i = 1#1) (hl : notLast i = 1#1) (hl' : ¬ isLast i = 1#1) (hq : ¬ k0_cond4 i = 1#1)
    (X Y : S32x31744.Idx → Elt F .f32) (Q : S32x253952.Idx → Elt F .i32) (A : S32x128.Idx → Elt F .f32)
    (K : PUnit → sProp 𝕄) :
    iprop((owns (c : Thread nD τ) a2 fullShare X ∗ owns (c : Thread nD τ) a3 fullShare Y
            ∗ owns (c : Thread nD τ) a4 fullShare Q ∗ owns (c : Thread nD τ) a5 fullShare A)
          ∗ (iprop(owns (c : Thread nD τ) a2 fullShare X ∗ owns (c : Thread nD τ) a3 fullShare Y
            ∗ (∃ Q', ⌜(∀ x, Q' ((putRect i hp).emb x) = packed X x) ∧ ∀ y, y ∉ (putRect i hp).set → Q' y = Q y⌝
                ∗ owns (c : Thread nD τ) a4 fullShare Q')
            ∗ owns (c : Thread nD τ) a5 fullShare (k0_pay2 i X A)) -∗ K ⟨⟩))
      ⊢ wp frame (wpE (defs₀ (F := F)) Variants.none c none) E (cc0_body i a2 h2 a3 h3 a4 h4 a5 h5) K := by
  have hz : (![0, 0] : Fin 2 → Nat) = fun _ => 0 := funext fun a => by fin_cases a <;> rfl
  rw [cc0_body_eq_skeleton]; unfold cc0_body_skel
  unfold owns
  iintro ⟨⟨⟨%f0, %hf0, H0⟩, ⟨%f1, %hf1, H1⟩, ⟨%f2, %hf2, H2⟩, ⟨%f3, %hf3, H3⟩⟩, Hk⟩
  sl_exec (disch := first | sl_exact hp | sl_exact hl | sl_exact hl' | sl_exact hq)
  have hx : first.sl.r c a2 f0 = X := by
    unfold first.sl.r; exact Stores.load a2.view f0 X hf0 hz inb_S32x31744_S32x31744_0_0
  have ha : View.readAt (Elt F) a5.view (Rect.unit ![0, 0] S32x128.size inb_S32x128_S32x128_0_0).toLoadRect f3 = A := by
    exact Stores.load a5.view f3 A hf3 hz inb_S32x128_S32x128_0_0
  have hw : k0_pay1 (first.sl.r_1 c a2 f0) (first.sl.r_2 c a2 f0) (first.sl.r_3 c a2 f0) (first.sl.r_4 c a2 f0) = packed X := by
    unfold first.sl.r_1 first.sl.r_2 first.sl.r_3 first.sl.r_4
    rw [show View.readAt (Elt F) a2.view (Rect.unit ![0, 0] S32x31744.size inb_S32x31744_S32x31744_0_0).toLoadRect f0 = X from
      Stores.load a2.view f0 X hf0 hz inb_S32x31744_S32x31744_0_0]
  sl_step
  iapply Hk
  rw [hx, ha, hw]
  isplitl [H0]
  · iexists f0; isplitr
    · ipureintro; exact hf0
    · iexact H0
  isplitl [H1]
  · iexists f1; isplitr
    · ipureintro; exact hf1
    · iexact H1
  isplitl [H2]
  · iexists View.read (Elt F) a4.view (a4.view.writes (Elt F) f2 [⟨putRect i hp, packed X⟩])
    isplitr
    · ipureintro
      exact Stores.one a4.view f2 Q hf2 (putRect i hp) (packed X)
    · iexists _; isplitr
      · ipureintro; rfl
      · iexact H2
  · iexists _; isplitr
    · ipureintro
      exact Stores.whole a5.view f3 hz inb_S32x128_S32x128_0_0 _
    · iexact H3

/-- A first-phase call on the last block: as `first`, the exponentials past the array's end left out of the sums. -/
theorem last (c : Dev nD) (E : Set ℕ) (i : grid0.Coords)
    (a2 : Memref sig .tc .vmem S32x31744 .f32) (h2 : a2.IsWhole) (a3 : Memref sig .tc .vmem S32x31744 .f32) (h3 : a3.IsWhole)
    (a4 : Memref sig .tc .vmem S32x253952 .i32) (h4 : a4.IsWhole) (a5 : Memref sig .tc .vmem S32x128 .f32) (h5 : a5.IsWhole)
    (hp : k0_cond1 i = 1#1) (hl : ¬ notLast i = 1#1) (hl' : isLast i = 1#1) (hq : ¬ k0_cond4 i = 1#1)
    (X Y : S32x31744.Idx → Elt F .f32) (Q : S32x253952.Idx → Elt F .i32) (A : S32x128.Idx → Elt F .f32)
    (K : PUnit → sProp 𝕄) :
    iprop((owns (c : Thread nD τ) a2 fullShare X ∗ owns (c : Thread nD τ) a3 fullShare Y
            ∗ owns (c : Thread nD τ) a4 fullShare Q ∗ owns (c : Thread nD τ) a5 fullShare A)
          ∗ (iprop(owns (c : Thread nD τ) a2 fullShare X ∗ owns (c : Thread nD τ) a3 fullShare Y
            ∗ (∃ Q', ⌜(∀ x, Q' ((putRect i hp).emb x) = packed X x) ∧ ∀ y, y ∉ (putRect i hp).set → Q' y = Q y⌝
                ∗ owns (c : Thread nD τ) a4 fullShare Q')
            ∗ owns (c : Thread nD τ) a5 fullShare (k0_pay3 i X A)) -∗ K ⟨⟩))
      ⊢ wp frame (wpE (defs₀ (F := F)) Variants.none c none) E (cc0_body i a2 h2 a3 h3 a4 h4 a5 h5) K := by
  have hz : (![0, 0] : Fin 2 → Nat) = fun _ => 0 := funext fun a => by fin_cases a <;> rfl
  rw [cc0_body_eq_skeleton]; unfold cc0_body_skel
  unfold owns
  iintro ⟨⟨⟨%f0, %hf0, H0⟩, ⟨%f1, %hf1, H1⟩, ⟨%f2, %hf2, H2⟩, ⟨%f3, %hf3, H3⟩⟩, Hk⟩
  sl_exec (disch := first | sl_exact hp | sl_exact hl | sl_exact hl' | sl_exact hq)
  have hx : last.sl.r c a2 f0 = X := by
    unfold last.sl.r; exact Stores.load a2.view f0 X hf0 hz inb_S32x31744_S32x31744_0_0
  have ha : View.readAt (Elt F) a5.view (Rect.unit ![0, 0] S32x128.size inb_S32x128_S32x128_0_0).toLoadRect f3 = A := by
    exact Stores.load a5.view f3 A hf3 hz inb_S32x128_S32x128_0_0
  have hw : k0_pay1 (last.sl.r_1 c a2 f0) (last.sl.r_2 c a2 f0) (last.sl.r_3 c a2 f0) (last.sl.r_4 c a2 f0) = packed X := by
    unfold last.sl.r_1 last.sl.r_2 last.sl.r_3 last.sl.r_4
    rw [show View.readAt (Elt F) a2.view (Rect.unit ![0, 0] S32x31744.size inb_S32x31744_S32x31744_0_0).toLoadRect f0 = X from
      Stores.load a2.view f0 X hf0 hz inb_S32x31744_S32x31744_0_0]
  sl_step
  iapply Hk
  rw [hx, ha, hw]
  isplitl [H0]
  · iexists f0; isplitr
    · ipureintro; exact hf0
    · iexact H0
  isplitl [H1]
  · iexists f1; isplitr
    · ipureintro; exact hf1
    · iexact H1
  isplitl [H2]
  · iexists View.read (Elt F) a4.view (a4.view.writes (Elt F) f2 [⟨putRect i hp, packed X⟩])
    isplitr
    · ipureintro
      exact Stores.one a4.view f2 Q hf2 (putRect i hp) (packed X)
    · iexists _; isplitr
      · ipureintro; rfl
      · iexact H2
  · iexists _; isplitr
    · ipureintro
      exact Stores.whole a5.view f3 hz inb_S32x128_S32x128_0_0 _
    · iexact H3

/-- A second-phase call: each quarter of the result's block from its byte of the words stored for the block. -/
theorem second (c : Dev nD) (E : Set ℕ) (i : grid0.Coords)
    (a2 : Memref sig .tc .vmem S32x31744 .f32) (h2 : a2.IsWhole) (a3 : Memref sig .tc .vmem S32x31744 .f32) (h3 : a3.IsWhole)
    (a4 : Memref sig .tc .vmem S32x253952 .i32) (h4 : a4.IsWhole) (a5 : Memref sig .tc .vmem S32x128 .f32) (h5 : a5.IsWhole)
    (hp : ¬ k0_cond1 i = 1#1) (hq : k0_cond4 i = 1#1)
    (X Y : S32x31744.Idx → Elt F .f32) (Q : S32x253952.Idx → Elt F .i32) (A : S32x128.Idx → Elt F .f32)
    (K : PUnit → sProp 𝕄) :
    iprop((owns (c : Thread nD τ) a2 fullShare X ∗ owns (c : Thread nD τ) a3 fullShare Y
            ∗ owns (c : Thread nD τ) a4 fullShare Q ∗ owns (c : Thread nD τ) a5 fullShare A)
          ∗ (iprop(owns (c : Thread nD τ) a2 fullShare X
            ∗ (∃ Y', ⌜(∀ x, Y' (quarter0.emb x) = k0_pay10 A (fun y => Q ((getRect i hq).emb y)) x)
                ∧ (∀ x, Y' (quarter1.emb x) = k0_pay11 A (fun y => Q ((getRect i hq).emb y)) x)
                ∧ (∀ x, Y' (quarter2.emb x) = k0_pay12 A (fun y => Q ((getRect i hq).emb y)) x)
                ∧ (∀ x, Y' (quarter3.emb x) = k0_pay4 (k0_pay9 A) (fun y => Q ((getRect i hq).emb y)) x)⌝
                ∗ owns (c : Thread nD τ) a3 fullShare Y')
            ∗ owns (c : Thread nD τ) a4 fullShare Q ∗ owns (c : Thread nD τ) a5 fullShare A) -∗ K ⟨⟩))
      ⊢ wp frame (wpE (defs₀ (F := F)) Variants.none c none) E (cc0_body i a2 h2 a3 h3 a4 h4 a5 h5) K := by
  have hz : (![0, 0] : Fin 2 → Nat) = fun _ => 0 := funext fun a => by fin_cases a <;> rfl
  rw [cc0_body_eq_skeleton]; unfold cc0_body_skel
  unfold owns
  iintro ⟨⟨⟨%f0, %hf0, H0⟩, ⟨%f1, %hf1, H1⟩, ⟨%f2, %hf2, H2⟩, ⟨%f3, %hf3, H3⟩⟩, Hk⟩
  sl_exec (disch := first | sl_exact hp | sl_exact hq)
  have ha : View.readAt (Elt F) a5.view (Rect.unit ![0, 0] S32x128.size inb_S32x128_S32x128_0_0).toLoadRect f3 = A := by
    exact Stores.load a5.view f3 A hf3 hz inb_S32x128_S32x128_0_0
  have hb : View.readAt (Elt F) a4.view (getRect i hq).toLoadRect f2 = fun y => Q ((getRect i hq).emb y) := by
    rw [View.readAt_eq_ld, hf2]; rfl
  have hr : second.sl.r c a5 f3 = k0_pay9 A := by
    unfold second.sl.r; rw [ha]
  have hr1 : second.sl.r_1 c i a4 hq f2 = fun y => Q ((getRect i hq).emb y) := by
    unfold second.sl.r_1; rw [hb]
  have hr2 : second.sl.r_2 c i a4 a5 hq f2 f3 = k0_pay12 A (fun y => Q ((getRect i hq).emb y)) := by
    unfold second.sl.r_2; rw [ha, hb]; rfl
  sl_step
  iapply Hk
  rw [hr, hr1, hr2, ha, hb]
  isplitl [H0]
  · iexists f0; isplitr
    · ipureintro; exact hf0
    · iexact H0
  isplitl [H1]
  · iexists View.read (Elt F) a3.view (a3.view.writes (Elt F) f1 [⟨quarter3, k0_pay4 (k0_pay9 A) (fun y => Q ((getRect i hq).emb y))⟩,
      ⟨quarter2, k0_pay12 A (fun y => Q ((getRect i hq).emb y))⟩, ⟨quarter1, k0_pay11 A (fun y => Q ((getRect i hq).emb y))⟩,
      ⟨quarter0, k0_pay10 A (fun y => Q ((getRect i hq).emb y))⟩])
    isplitr
    · ipureintro
      exact Stores.four a3.view f1 quarter0 quarter1 quarter2 quarter3 _ _ _ _
        (Rect.unit_disjoint 1 (.inl (by decide))) (Rect.unit_disjoint 1 (.inl (by decide))) (Rect.unit_disjoint 1 (.inl (by decide)))
        (Rect.unit_disjoint 1 (.inl (by decide))) (Rect.unit_disjoint 1 (.inl (by decide))) (Rect.unit_disjoint 1 (.inl (by decide)))
    · iexists _; isplitr
      · ipureintro; rfl
      · iexact H1
  isplitl [H2]
  · iexists f2; isplitr
    · ipureintro; exact hf2
    · iexact H2
  · iexists f3; isplitr
    · ipureintro; exact hf3
    · iexact H3

end Cert.KernelIdeal.Body

end
-- ==== Proof.KernelIdealFrame.lean ====
/-
  The frame of the idealized kernel (as KernelFrame has it of the kernel): it runs to its end from any memory with zero counters, leaves its argument as it was and
  every counter at zero. The two scratch buffers are carried from call to call at contents nobody names, and nothing
  is said of the result.
-/
module

public import proofs.«01_k».proof.Proof.KernelIdealTriples

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's 64 points -/

/-- Points 0 to 31 are the first phase, one call per block of columns; point 31 is the last block's. Points 32 to 63
    are the second phase. -/
theorem phases : ∀ t : Fin grid0.N,
    (t.val < 31 ∧ k0_cond1 (grid0.coords t) = 1#1 ∧ notLast (grid0.coords t) = 1#1 ∧ ¬ isLast (grid0.coords t) = 1#1
        ∧ ¬ k0_cond4 (grid0.coords t) = 1#1)
    ∨ (t.val = 31 ∧ k0_cond1 (grid0.coords t) = 1#1 ∧ ¬ notLast (grid0.coords t) = 1#1 ∧ isLast (grid0.coords t) = 1#1
        ∧ ¬ k0_cond4 (grid0.coords t) = 1#1)
    ∨ (32 ≤ t.val ∧ ¬ k0_cond1 (grid0.coords t) = 1#1 ∧ k0_cond4 (grid0.coords t) = 1#1) := by decide +kernel

/-- The result's block is written back only in the second phase. -/
theorem flush_1 : ∀ t : Fin grid0.N, t.val < 32 → (cfg0.win 1).flush t = false := by decide +kernel

/-! ## The proof data -/

/-- The pipeline's proof data, for what a call leaves in the result's staging buffer (`out`) and what is carried
    between calls (`car`): the arrays as launched, the argument's staging buffer holding its block. -/
def dat (out : (c : Dev nD) → (t : Fin cfg0.N) → S32x31744.Idx → Elt F .f32)
    (car : (c : Dev nD) → Fin (cfg0.N + 1) → sProp 𝕄) (_ : Fin 1) (c : Dev nD) :
    Dat τ (Elt F) Unit ℕ (UR sig nD τ) ℕ cfg0 c where
  A w := (s₀ m ρ).mem ((cfg0.win w).arr.view.loc (c : Thread nD τ))
  after w t := match w with
    | ⟨0, _⟩ => win0_0.fill (grid0.coords t) (fun _ => Scalar.ofBits .f32 0#32) (iblk m c 0 t)
    | ⟨1, _⟩ => out c t
  Φ := car c
  q _ := fullShare
  owed _ := 0

/-- Points with one block of the argument cut it alike. -/
theorem clip_eq (t t' : Fin cfg0.N) (h : (cfg0.win 0).index t = (cfg0.win 0).index t') :
    (cfg0.win 0).clip (cfg0.grid.coords t) = (cfg0.win 0).clip (cfg0.grid.coords t') :=
  funext fun a => congrArg (fun n : Fin 2 → Nat => Pipeline.Clip.of (n a) (S32x31744.size a) (S32x1000000.size a)) h

/-- A call finds the argument's block in its staging buffer, whether or not it was fetched for this call. -/
theorem before_0 (out : (c : Dev nD) → (t : Fin cfg0.N) → S32x31744.Idx → Elt F .f32)
    (car : (c : Dev nD) → Fin (cfg0.N + 1) → sProp 𝕄) (c : Dev nD) (t : Fin cfg0.N) (d) :
    (dat m ρ out car 0 c).before (0 : Fin 2) t d = win0_0.fill (grid0.coords t) d (iblk m c 0 t) :=
  (dat m ρ out car 0 c).before_in_eq_fetched (0 : Fin 2) rfl (fun _ => rfl) clip_eq
    (fun t => win0_0.cut_fill _ _ _) t d

/-- The body of the pipeline at a point is the kernel's function on the point's staging buffers. -/
theorem defs_row (t : Fin cfg0.N) :
    defs₀ (F := F) .tc cfg0.body (cfg0.bodyArgs t (cfg0.slots t)) = bodyAt0 t := by
  unfold defs₀; rw [Defs.onTc_tc]

/-! ## The calls, nothing said of the scratch buffers -/

/-- A call of the body: the argument's block stays, every other buffer ends at some contents. -/
theorem call (c : Dev nD) (E : Set ℕ) (t : Fin cfg0.N)
    (a2 : Memref sig .tc .vmem S32x31744 .f32) (h2 : a2.IsWhole) (a3 : Memref sig .tc .vmem S32x31744 .f32) (h3 : a3.IsWhole)
    (a4 : Memref sig .tc .vmem S32x253952 .i32) (h4 : a4.IsWhole) (a5 : Memref sig .tc .vmem S32x128 .f32) (h5 : a5.IsWhole)
    (X Y : S32x31744.Idx → Elt F .f32) (Q : S32x253952.Idx → Elt F .i32) (A : S32x128.Idx → Elt F .f32)
    (K : PUnit → sProp 𝕄) :
    iprop((owns (c : Thread nD τ) a2 fullShare X ∗ owns (c : Thread nD τ) a3 fullShare Y
            ∗ owns (c : Thread nD τ) a4 fullShare Q ∗ owns (c : Thread nD τ) a5 fullShare A)
          ∗ (iprop(owns (c : Thread nD τ) a2 fullShare X ∗ (∃ Y', owns (c : Thread nD τ) a3 fullShare Y')
            ∗ (∃ Q', owns (c : Thread nD τ) a4 fullShare Q') ∗ (∃ A', owns (c : Thread nD τ) a5 fullShare A')) -∗ K ⟨⟩))
      ⊢ wp frame (wpE (defs₀ (F := F)) Variants.none c none) E (cc0_body (grid0.coords t) a2 h2 a3 h3 a4 h4 a5 h5) K := by
  rcases phases t with ⟨_, hp, hl, hl', hq⟩ | ⟨_, hp, hl, hl', hq⟩ | ⟨_, hp, hq⟩
  · iintro ⟨H, Hk⟩
    iapply (first c E (grid0.coords t) a2 h2 a3 h3 a4 h4 a5 h5 hp hl hl' hq X Y Q A K)
    isplitl [H]; · iexact H
    iintro ⟨H0, H1, ⟨%Q', -, H2⟩, H3⟩
    iapply Hk
    isplitl [H0]; · iexact H0
    isplitl [H1]; · iexists Y; iexact H1
    isplitl [H2]; · iexists Q'; iexact H2
    · iexists _; iexact H3
  · iintro ⟨H, Hk⟩
    iapply (last c E (grid0.coords t) a2 h2 a3 h3 a4 h4 a5 h5 hp hl hl' hq X Y Q A K)
    isplitl [H]; · iexact H
    iintro ⟨H0, H1, ⟨%Q', -, H2⟩, H3⟩
    iapply Hk
    isplitl [H0]; · iexact H0
    isplitl [H1]; · iexists Y; iexact H1
    isplitl [H2]; · iexists Q'; iexact H2
    · iexists _; iexact H3
  · iintro ⟨H, Hk⟩
    iapply (second c E (grid0.coords t) a2 h2 a3 h3 a4 h4 a5 h5 hp hq X Y Q A K)
    isplitl [H]; · iexact H
    iintro ⟨H0, ⟨%Y', -, H1⟩, H2, H3⟩
    iapply Hk
    isplitl [H0]; · iexact H0
    isplitl [H1]; · iexists Y'; iexact H1
    isplitl [H2]; · iexists Q; iexact H2
    · iexists A; iexact H3

/-- Only the result's window is left undescribed. -/
abbrev fgt : Fin cfg0.W → Bool := fun | 0 => false | 1 => true

/-- The frame's proof data: nothing carried but the scratch buffers at some contents. -/
abbrev fdat : (p : Fin 1) → (c : Dev nD) → Dat τ (Elt F) Unit ℕ (UR sig nD τ) ℕ cfg0 c :=
  dat m ρ (fun _ _ _ => Scalar.ofBits .f32 0#32) (fun c _ => Pipeline.ΦA spec0 c)

theorem body_obligation (c : Dev nD) :
    BodyObligationLoose (fdat m ρ 0 c) (defs₀ (F := F)) Variants.none () Set.univ fgt := fun t => by
  rw [bigSep_W0, bigSep_W0, defs_row]
  simp only
  rw [show (fdat m ρ 0 c).Φ t.succ = (Pipeline.ΦA spec0 c : sProp 𝕄) from rfl,
    show (fdat m ρ 0 c).Φ t.castSucc = (Pipeline.ΦA spec0 c : sProp 𝕄) from rfl,
    show (fdat m ρ 0 c).owesAt () t.succ = (fdat m ρ 0 c).owesAt () t.castSucc from rfl]
  unfold Pipeline.ΦA
  rw [scopedRest0_eq]
  simp only [← owns_whole]
  iintro ⟨⟨⟨⟨%Q, HQ⟩, ⟨%A, HA⟩⟩, Hr⟩, Ho, ⟨%d0, H0⟩, ⟨%Y, H1⟩⟩
  rw [before_0 m ρ]
  iapply (call (F := F) c Set.univ t _ _ _ _ _ _ _ _
    (win0_0.fill (grid0.coords t) d0 (iblk m c 0 t)) Y Q A _)
  isplitl [H0 H1 HQ HA]
  · isplitl [H0]; · iexact H0
    isplitl [H1]; · iexact H1
    isplitl [HQ]; · iexact HQ
    · iexact HA
  iintro ⟨H0, H1, HQ, HA⟩
  isplitl [HQ HA Hr]
  · isplitl [HQ HA]
    · isplitl [HQ]; · iexact HQ
      · iexact HA
    · iexact Hr
  isplitl [Ho]; · iexact Ho
  isplitl [H0]
  · iexists d0
    have hx : win0_0.cut (grid0.coords t) ((fdat m ρ 0 c).after (0 : Fin 2) t) = iblk m c 0 t := win0_0.cut_fill _ _ _
    change _ ⊢ owns (c : Thread nD τ) _ fullShare (win0_0.fill (grid0.coords t) d0 (win0_0.cut (grid0.coords t) ((fdat m ρ 0 c).after (0 : Fin 2) t)))
    rw [hx]
  · iexact H1

set_option backward.isDefEq.respectTransparency.types false in
/-- The kernel runs, its argument ends unchanged and every counter at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = fun _ => 0) :=
  Pipeline.θ_run_frame_track_forget cfgs (fdat m ρ) 0 launch0 defs₀ Variants.none fgt m ρ main
    (hbody := body_obligation m ρ)
    (hshare := fun c => (fdat m ρ 0 c).share_full fun _ => rfl) (howed := fun _ _ => rfl)
    (V := V m) (hmain := hmain m Variants.none) (hA := fun _ _ => rfl)
    (hin := fun _ => .rfl) (hout := fun _ => .rfl)
    (Q' := _) (hQ' := fun r h => ⟨fun c => h.1.arr_in c 0 rfl, h.2⟩)

end Cert.KernelIdeal.Body

end
-- ==== Proof.Words.lean ====
/-
  Four 8-bit codes in one 32-bit word: shifted into place and joined, each is read back by a shift and a mask.
-/
module

public import Idealize.ShloMosaic.PureOps

@[expose] public section

noncomputable section

namespace Cert.Words

open Idealize.ShloMosaic

/-- Four bytes, the first the lowest, joined into a word. -/
def join (a b c d : BitVec 32) : BitVec 32 :=
  IntOp.ori (IntOp.ori (IntOp.ori a (IntOp.shli .vector b 8#32)) (IntOp.shli .vector c 16#32)) (IntOp.shli .vector d 24#32)

/-- The byte of a word that starts at bit `s`. -/
def byteAt (s w : BitVec 32) : BitVec 32 := IntOp.andi (IntOp.shrui .vector w s) 255#32

/-- Which bits the mask 255 keeps: the lowest eight. -/
theorem mask_bit (i : Nat) : (255#32).getLsbD i = decide (i < 8) := by
  rw [BitVec.getLsbD_ofNat]
  have h : (255 : Nat).testBit i = decide (i < 8) := by
    rw [show (255 : Nat) = 2 ^ 8 - 1 from rfl, Nat.testBit_two_pow_sub_one]
  rw [h]
  by_cases hi : i < 8
  · simp [hi, Nat.lt_trans hi (by decide : 8 < 32)]
  · simp [hi]

/-- A word of bits all below the eighth has no other bit. -/
theorem high_bit {a : BitVec 32} (h : a &&& 255#32 = a) (i : Nat) (hi : 8 ≤ i) : a.getLsbD i = false := by
  rw [← h, BitVec.getLsbD_and, mask_bit, decide_eq_false (by omega), Bool.and_false]

/-- Bit `i` of the byte that starts at bit `s`. -/
theorem byteAt_bit (s w : BitVec 32) (hs : s.toNat < 32) (i : Nat) :
    (byteAt s w).getLsbD i = (w.getLsbD (s.toNat + i) && decide (i < 8)) := by
  unfold byteAt IntOp.andi IntOp.shrui
  rw [if_pos hs, BitVec.getLsbD_and, mask_bit, BitVec.ushiftRight_eq', BitVec.getLsbD_ushiftRight]

variable {a b c d : BitVec 32} (ha : a &&& 255#32 = a) (hb : b &&& 255#32 = b) (hc : c &&& 255#32 = c)
  (hd : d &&& 255#32 = d)

include ha hb hc hd

/-- Bit `i` of the joined word. -/
theorem join_bit (i : Nat) (hi : i < 32) : (join a b c d).getLsbD i
    = (a.getLsbD i || (decide (8 ≤ i) && b.getLsbD (i - 8)) || (decide (16 ≤ i) && c.getLsbD (i - 16))
        || (decide (24 ≤ i) && d.getLsbD (i - 24))) := by
  unfold join IntOp.ori IntOp.shli
  rw [if_pos (by decide), if_pos (by decide), if_pos (by decide)]
  simp only [BitVec.getLsbD_or, BitVec.shiftLeft_eq', BitVec.getLsbD_shiftLeft, hi, decide_true, Bool.true_and]
  simp only [BitVec.toNat_ofNat, Nat.reducePow, Nat.reduceMod]
  have hn (n : Nat) : (!decide (i < n)) = decide (n ≤ i) := by
    by_cases h : i < n
    · simp [h]
    · simp [h, Nat.le_of_not_lt h]
  rw [hn, hn, hn]

theorem byte_0 : byteAt 0#32 (join a b c d) = a := by
  refine BitVec.eq_of_getLsbD_eq fun i hi => ?_
  rw [byteAt_bit _ _ (by decide)]
  by_cases h : i < 8
  · rw [show (0#32).toNat + i = i by simp, join_bit ha hb hc hd i hi]
    simp [h, show ¬ 8 ≤ i by omega, show ¬ 16 ≤ i by omega, show ¬ 24 ≤ i by omega]
  · rw [high_bit ha i (by omega)]; simp [h]

theorem byte_1 : byteAt 8#32 (join a b c d) = b := by
  refine BitVec.eq_of_getLsbD_eq fun i hi => ?_
  rw [byteAt_bit _ _ (by decide)]
  by_cases h : i < 8
  · rw [show (8#32).toNat + i = 8 + i by simp, join_bit ha hb hc hd (8 + i) (by omega), high_bit ha (8 + i) (by omega)]
    simp [h, show 8 + i - 8 = i by omega, show ¬ 16 ≤ 8 + i by omega, show ¬ 24 ≤ 8 + i by omega]
  · rw [high_bit hb i (by omega)]; simp [h]

theorem byte_2 : byteAt 16#32 (join a b c d) = c := by
  refine BitVec.eq_of_getLsbD_eq fun i hi => ?_
  rw [byteAt_bit _ _ (by decide)]
  by_cases h : i < 8
  · rw [show (16#32).toNat + i = 16 + i by simp, join_bit ha hb hc hd (16 + i) (by omega), high_bit ha (16 + i) (by omega),
      high_bit hb (16 + i - 8) (by omega)]
    simp [h, show 16 + i - 16 = i by omega, show ¬ 24 ≤ 16 + i by omega]
  · rw [high_bit hc i (by omega)]; simp [h]

theorem byte_3 : byteAt 24#32 (join a b c d) = d := by
  refine BitVec.eq_of_getLsbD_eq fun i hi => ?_
  rw [byteAt_bit _ _ (by decide)]
  by_cases h : i < 8
  · rw [show (24#32).toNat + i = 24 + i by simp, join_bit ha hb hc hd (24 + i) (by omega), high_bit ha (24 + i) (by omega),
      high_bit hb (24 + i - 8) (by omega), high_bit hc (24 + i - 16) (by omega)]
    simp [h, show 24 + i - 24 = i by omega]
  · rw [high_bit hd i (by omega)]; simp [h]

end Cert.Words

end
-- ==== Proof.Payloads.lean ====
/-
  What one call of the kernel computes, read at one index over the extended reals: the codes of four columns joined in a
  word, the lanes' sums of exponentials, and a column of the result.
-/
module

public import proofs.«01_k».proof.Proof.Gen.KernelIdeal.Skeleton
public import proofs.«01_k».proof.Proof.Words
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.SL.Sem

/-- The 8-bit code of a logit: it, in steps of 1/8 rounded to the nearest, plus 128. -/
def code (x : EReal) : BitVec 32 :=
  IntOp.andi
    (IntOp.addi (Ideal.fptosi 32 (Ideal.liftRound Int.floor (x * Ideal.ofBits .f32 0x41000000#32 + Ideal.ofBits .f32 0x3F000000#32)))
      128#32) 255#32

/-- A logit's code read back, less the row's log-sum-exp `L`: the code's step is 1/8, and the 128 added to the code
    is the 16 taken off. -/
def decoded (w : BitVec 32) (L : EReal) : EReal :=
  ((w.toInt : ℝ) : EReal) * Ideal.ofBits .f32 0x3E000000#32 - (L + Ideal.ofBits .f32 0x41800000#32)

theorem code_mask (x : EReal) : code x &&& 255#32 = code x := by
  unfold code IntOp.andi; rw [BitVec.and_assoc, BitVec.and_self]

/-- A word of codes holds those of four columns, a quarter of the block apart. -/
theorem word_at (X : FVec Ideal S32x31744 .f32) (r : Fin 32) (k : Fin 7936) :
    k0_pay1 (k0_pay5 (F := Ideal) X) (k0_pay6 (F := Ideal) X) (k0_pay7 (F := Ideal) X) (k0_pay8 (F := Ideal) X) (ix2 r k)
      = Words.join (code (X (ix2 r ⟨k, by omega⟩))) (code (X (ix2 r ⟨7936 + k, by omega⟩)))
          (code (X (ix2 r ⟨15872 + k, by omega⟩))) (code (X (ix2 r ⟨23808 + k, by omega⟩))) := by
  pointwise [k0_pay1, k0_pay5, k0_pay6, k0_pay7, k0_pay8]
  rfl

/-- The lanes' sums after a call on a whole block. -/
theorem lanes_at (i : grid0.Coords) (X : FVec Ideal S32x31744 .f32) (A : FVec Ideal S32x128 .f32) (r : Fin 32) (l : Fin 128) :
    k0_pay2 (F := Ideal) i X A (ix2 r l)
      = Scalar.select (Scalar.cmpi CmpIPredicate.eq (BitVec.ofNat 32 (i 1).val) 0#32)
          (∑ s : Fin 248, Ideal.exp (X (ix2 r ⟨s * 128 + l, by omega⟩)))
          (A (ix2 r l) + ∑ s : Fin 248, Ideal.exp (X (ix2 r ⟨s * 128 + l, by omega⟩)) : EReal) := by
  pointwise [k0_pay2]

/-- The lanes' sums after the call on the last block: the columns past the array's end are left out. -/
theorem tail_lanes_at (i : grid0.Coords) (X : FVec Ideal S32x31744 .f32) (A : FVec Ideal S32x128 .f32) (r : Fin 32) (l : Fin 128) :
    k0_pay3 (F := Ideal) i X A (ix2 r l)
      = Scalar.select (Scalar.cmpi CmpIPredicate.eq (BitVec.ofNat 32 (i 1).val) 0#32)
          (∑ s : Fin 248, Scalar.select (IntOp.cmpi CmpIPredicate.slt
            (IntOp.addi (Scalar.muli (BitVec.ofNat 32 (i 1).val) 31744#32) (BitVec.ofNat 32 (s * 128 + l))) 1000000#32)
            (Ideal.exp (X (ix2 r ⟨s * 128 + l, by omega⟩))) 0)
          (A (ix2 r l) + ∑ s : Fin 248, Scalar.select (IntOp.cmpi CmpIPredicate.slt
            (IntOp.addi (Scalar.muli (BitVec.ofNat 32 (i 1).val) 31744#32) (BitVec.ofNat 32 (s * 128 + l))) 1000000#32)
            (Ideal.exp (X (ix2 r ⟨s * 128 + l, by omega⟩))) 0 : EReal) := by
  pointwise [k0_pay3]

/-! The result's four quarters, each from its byte of the word. -/

theorem quarter0_at (W : IVec S32x7936 32) (A : FVec Ideal S32x128 .f32) (r : Fin 32) (k : Fin 7936) :
    k0_pay10 (F := Ideal) A W (ix2 r k)
      = decoded (Words.byteAt 0#32 (W (ix2 r k))) (Ideal.log (∑ l : Fin 128, A (ix2 r l))) := by
  pointwise [k0_pay10, k0_pay9]; rfl

theorem quarter1_at (W : IVec S32x7936 32) (A : FVec Ideal S32x128 .f32) (r : Fin 32) (k : Fin 7936) :
    k0_pay11 (F := Ideal) A W (ix2 r k)
      = decoded (Words.byteAt 8#32 (W (ix2 r k))) (Ideal.log (∑ l : Fin 128, A (ix2 r l))) := by
  pointwise [k0_pay11, k0_pay9]; rfl

theorem quarter2_at (W : IVec S32x7936 32) (A : FVec Ideal S32x128 .f32) (r : Fin 32) (k : Fin 7936) :
    k0_pay12 (F := Ideal) A W (ix2 r k)
      = decoded (Words.byteAt 16#32 (W (ix2 r k))) (Ideal.log (∑ l : Fin 128, A (ix2 r l))) := by
  pointwise [k0_pay12, k0_pay9]; rfl

theorem quarter3_at (W : IVec S32x7936 32) (A : FVec Ideal S32x128 .f32) (r : Fin 32) (k : Fin 7936) :
    k0_pay4 (F := Ideal) (k0_pay9 (F := Ideal) A) W (ix2 r k)
      = decoded (Words.byteAt 24#32 (W (ix2 r k))) (Ideal.log (∑ l : Fin 128, A (ix2 r l))) := by
  pointwise [k0_pay4, k0_pay9]; rfl

end Cert.KernelIdeal.Value

end
-- ==== Proof.Sums.lean ====
/-
  The sum of a row's million exponentials as the kernel takes it: columns in rows of 128 lanes, 248 such rows to a block,
  32 blocks, every column past the million counted as zero.
-/
module

public import Mathlib.Algebra.BigOperators.Fin
public import Mathlib.Algebra.BigOperators.Group.Finset.Basic

@[expose] public section

namespace Cert.Sums

variable {M : Type} [AddCommMonoid M]

/-- A sum over rows of `k` is a sum over all. -/
theorem rows (f : ℕ → M) (k n : ℕ) :
    ∑ s ∈ Finset.range n, ∑ l ∈ Finset.range k, f (s * k + l) = ∑ c ∈ Finset.range (n * k), f c := by
  induction n with
  | zero => simp
  | succ n ih => rw [Finset.sum_range_succ, ih, Nat.succ_mul, Finset.sum_range_add]

/-- The sums of the lanes after `n` blocks. -/
def lane (f : ℕ → M) (n l : ℕ) : M := ∑ s ∈ Finset.range (n * 248), f (s * 128 + l)

theorem lane_zero (f : ℕ → M) (l : ℕ) : lane f 0 l = 0 := by simp [lane]

/-- One block more. -/
theorem lane_succ (f : ℕ → M) (n l : ℕ) :
    lane f (n + 1) l = lane f n l + ∑ s : Fin 248, f (n * 31744 + (s * 128 + l)) := by
  unfold lane
  rw [Nat.succ_mul, Finset.sum_range_add]
  congr 1
  rw [← Fin.sum_univ_eq_sum_range (fun s => f ((n * 248 + s) * 128 + l)) 248]
  refine Finset.sum_congr rfl fun s _ => congrArg f (by omega)

/-- The 128 lanes after all 32 blocks, of a row that is zero from the millionth column on, sum to the row's sum. -/
theorem lanes_sum (f : ℕ → M) (hf : ∀ c, 1000000 ≤ c → f c = 0) :
    ∑ l : Fin 128, lane f 32 l = ∑ c : Fin 1000000, f c := by
  rw [Fin.sum_univ_eq_sum_range (fun l => lane f 32 l) 128]
  unfold lane
  rw [Finset.sum_comm, rows f 128 (32 * 248), Fin.sum_univ_eq_sum_range f 1000000]
  symm
  refine Finset.sum_subset (fun c hc => ?_) fun c _ hc => hf c ?_
  · rw [Finset.mem_range] at hc ⊢; omega
  · rw [Finset.mem_range] at hc; omega

end Cert.Sums
-- ==== Proof.Invariant.lean ====
/-
  What the two scratch buffers hold between calls, and that each call keeps it: after the first `n` calls of the first
  phase, the codes of the first `n` blocks of columns and each lane's sum of those blocks' exponentials.
-/
module

public import proofs.«01_k».proof.Proof.Payloads
public import proofs.«01_k».proof.Proof.Sums
public import proofs.«01_k».proof.Proof.KernelIdealTriples

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.SL.Sem

/-- Where in a word each of its four codes starts. -/
def shift : Fin 4 → BitVec 32 := ![0#32, 8#32, 16#32, 24#32]

/-- The exponential of column `c` of row `r`, zero past the array's end. -/
def expAt (x : FVec Ideal S32x1000000 .f32) (r : Fin 32) (c : ℕ) : EReal :=
  if h : c < 1000000 then Ideal.exp (x (ix2 r ⟨c, h⟩)) else 0

/-- The kernel's result: each logit's code read back, less the row's log-sum-exp. -/
def G (x : FVec Ideal S32x1000000 .f32) : FVec Ideal S32x1000000 .f32 := fun y =>
  decoded (code (x y)) (Ideal.log (∑ c : Fin 1000000, Ideal.exp (x (ix2 (y 0) c))))

/-- The scratch buffers after `n` blocks. -/
structure Inv (x : FVec Ideal S32x1000000 .f32) (n : ℕ) (Q : IVec S32x253952 32) (A : FVec Ideal S32x128 .f32) : Prop where
  codes : ∀ (j : Fin 32), j.val < n → ∀ (r : Fin 32) (k : Fin 7936) (q : Fin 4) (h : j.val * 31744 + (q.val * 7936 + k.val) < 1000000),
    Words.byteAt (shift q) (Q (ix2 r ⟨7936 * j.val + k.val, by omega⟩)) = code (x (ix2 r ⟨j.val * 31744 + (q.val * 7936 + k.val), h⟩))
  sums : 0 < n → ∀ (r : Fin 32) (l : Fin 128), A (ix2 r l) = Sums.lane (expAt x r) n l

/-- A staging buffer's columns inside the array are those of block `j`. -/
def IsBlock (x : FVec Ideal S32x1000000 .f32) (j : ℕ) (X : FVec Ideal S32x31744 .f32) : Prop :=
  ∀ (r : Fin 32) (y : Fin 31744) (h : j * 31744 + y.val < 1000000), X (ix2 r y) = x (ix2 r ⟨j * 31744 + y.val, h⟩)

theorem inv_zero (x : FVec Ideal S32x1000000 .f32) (Q : IVec S32x253952 32) (A : FVec Ideal S32x128 .f32) : Inv x 0 Q A :=
  ⟨fun j h => absurd h (Nat.not_lt_zero _), fun h => absurd h (lt_irrefl _)⟩

/-! ## The words -/

theorem put_off : ∀ i : grid0.Coords, k0_off1 i = ![0, 7936 * (i 1).val] := by decide +kernel
theorem get_off : ∀ i : grid0.Coords, k0_off2 i = ![0, 7936 * (i 1).val] := by decide +kernel

/-- Each byte of a packed word is the code of its own column. -/
theorem packed_byte (X : FVec Ideal S32x31744 .f32) (r : Fin 32) (k : Fin 7936) (q : Fin 4) :
    Words.byteAt (shift q) (packed (F := Ideal) X (ix2 r k)) = code (X (ix2 r ⟨q.val * 7936 + k.val, by omega⟩)) := by
  unfold packed
  rw [word_at]
  fin_cases q
  · refine (Words.byte_0 (code_mask _) (code_mask _) (code_mask _) (code_mask _)).trans ?_
    congr 3; exact Fin.ext (by simp)
  · refine (Words.byte_1 (code_mask _) (code_mask _) (code_mask _) (code_mask _)).trans ?_
    congr 3
  · refine (Words.byte_2 (code_mask _) (code_mask _) (code_mask _) (code_mask _)).trans ?_
    congr 3
  · refine (Words.byte_3 (code_mask _) (code_mask _) (code_mask _) (code_mask _)).trans ?_
    congr 3

theorem put_emb (i : grid0.Coords) (hp : k0_cond1 i = 1#1) (j : Fin 32) (hj : (i 1).val = j.val) (r : Fin 32) (k : Fin 7936) :
    (putRect i hp).emb (ix2 r k) = (ix2 r ⟨7936 * j.val + k.val, by omega⟩ : S32x253952.Idx) := by
  funext a
  refine Fin.ext ?_
  rw [Rect.emb_apply]
  show k0_off1 i a + 1 * _ = _
  rw [put_off, hj]
  fin_cases a
  · show 0 + 1 * r.val = r.val; omega
  · show 7936 * j.val + 1 * k.val = 7936 * j.val + k.val; omega

theorem get_emb (i : grid0.Coords) (hq : k0_cond4 i = 1#1) (j : Fin 32) (hj : (i 1).val = j.val) (r : Fin 32) (k : Fin 7936) :
    (getRect i hq).emb (ix2 r k) = (ix2 r ⟨7936 * j.val + k.val, by omega⟩ : S32x253952.Idx) := by
  funext a
  refine Fin.ext ?_
  rw [Rect.emb_apply]
  show k0_off2 i a + 1 * _ = _
  rw [get_off, hj]
  fin_cases a
  · show 0 + 1 * r.val = r.val; omega
  · show 7936 * j.val + 1 * k.val = 7936 * j.val + k.val; omega

/-- A column of an earlier block is none of those a call writes. -/
theorem not_put (i : grid0.Coords) (hp : k0_cond1 i = 1#1) (r : Fin 32) (k : Fin 253952) (h : k.val < 7936 * (i 1).val) :
    (ix2 r k : S32x253952.Idx) ∉ (putRect i hp).set := by
  intro hm
  have h1 := (Rect.mem_set_unit.1 hm (1 : Fin 2)).1
  rw [put_off] at h1
  have h2 : 7936 * (i 1).val ≤ k.val := h1
  omega

/-- The codes after one call more. -/
theorem codes_step {x : FVec Ideal S32x1000000 .f32} {j : Fin 32} {Q Q' : IVec S32x253952 32} {A A' : FVec Ideal S32x128 .f32}
    (hI : Inv x j.val Q A) {X : FVec Ideal S32x31744 .f32} (hX : IsBlock x j.val X) (i : grid0.Coords) (hp : k0_cond1 i = 1#1)
    (hj : (i 1).val = j.val) (hin : ∀ y, Q' ((putRect i hp).emb y) = packed (F := Ideal) X y)
    (hout : ∀ y, y ∉ (putRect i hp).set → Q' y = Q y) :
    ∀ (j' : Fin 32), j'.val < j.val + 1 → ∀ (r : Fin 32) (k : Fin 7936) (q : Fin 4)
      (h : j'.val * 31744 + (q.val * 7936 + k.val) < 1000000),
      Words.byteAt (shift q) (Q' (ix2 r ⟨7936 * j'.val + k.val, by omega⟩))
        = code (x (ix2 r ⟨j'.val * 31744 + (q.val * 7936 + k.val), h⟩)) := by
  intro j' hj' r k q h
  by_cases he : j' = j
  · subst he
    rw [← put_emb i hp j' hj r k, hin, packed_byte, hX r ⟨q.val * 7936 + k.val, by omega⟩ h]
  · have hlt : j'.val < j.val := by
      have : j'.val ≠ j.val := fun h => he (Fin.ext h)
      omega
    rw [hout _ (not_put i hp r _ (by rw [hj]; show 7936 * j'.val + k.val < _; omega))]
    exact hI.codes j' hlt r k q h

/-! ## The lanes -/

/-- The test whether a block is the first. -/
theorem is_first (j : Fin 32) : Scalar.cmpi CmpIPredicate.eq (BitVec.ofNat 32 j.val) 0#32 = if j.val = 0 then 1#1 else 0#1 := by
  revert j; decide

/-- The test whether a column of the last block is inside the array. -/
theorem is_inside : ∀ c : Fin 31744,
    IntOp.cmpi CmpIPredicate.slt (IntOp.addi (Scalar.muli (BitVec.ofNat 32 31) 31744#32) (BitVec.ofNat 32 c.val)) 1000000#32
      = if 31 * 31744 + c.val < 1000000 then 1#1 else 0#1 := by decide +kernel

/-- What the lanes hold after a call that adds `p`: `p` itself if it is the first. -/
theorem sums_step {x : FVec Ideal S32x1000000 .f32} {j : Fin 32} {Q : IVec S32x253952 32} {A : FVec Ideal S32x128 .f32}
    (hI : Inv x j.val Q A) (r : Fin 32) (l : Fin 128) (p : EReal)
    (h : p = ∑ s : Fin 248, expAt x r (j.val * 31744 + (s * 128 + l))) :
    Scalar.select (Scalar.cmpi CmpIPredicate.eq (BitVec.ofNat 32 j.val) 0#32) p (A (ix2 r l) + p : EReal)
      = Sums.lane (expAt x r) (j.val + 1) l := by
  rw [Sums.lane_succ, ← h, is_first]
  by_cases h0 : j.val = 0
  · rw [if_pos h0, h0, Sums.lane_zero, zero_add]; rfl
  · rw [if_neg h0, ← hI.sums (Nat.pos_of_ne_zero h0) r l]; rfl

/-- A first-phase call on a whole block keeps the invariant. -/
theorem inv_first {x : FVec Ideal S32x1000000 .f32} {j : Fin 32} (hj31 : j.val < 31) {Q Q' : IVec S32x253952 32}
    {A : FVec Ideal S32x128 .f32} (hI : Inv x j.val Q A) {X : FVec Ideal S32x31744 .f32} (hX : IsBlock x j.val X)
    (i : grid0.Coords) (hp : k0_cond1 i = 1#1) (hj : (i 1).val = j.val)
    (hin : ∀ y, Q' ((putRect i hp).emb y) = packed (F := Ideal) X y)
    (hout : ∀ y, y ∉ (putRect i hp).set → Q' y = Q y) : Inv x (j.val + 1) Q' (k0_pay2 (F := Ideal) i X A) :=
  ⟨codes_step (A' := A) hI hX i hp hj hin hout, fun _ r l => by
    rw [lanes_at, hj]
    refine sums_step hI r l _ (Finset.sum_congr rfl fun s _ => ?_)
    have hc : j.val * 31744 + (s.val * 128 + l.val) < 1000000 := by omega
    rw [hX r ⟨s.val * 128 + l.val, by omega⟩ hc, expAt, dif_pos hc]⟩

/-- The first-phase call on the last block keeps the invariant. -/
theorem inv_last {x : FVec Ideal S32x1000000 .f32} {j : Fin 32} (hj31 : j.val = 31) {Q Q' : IVec S32x253952 32}
    {A : FVec Ideal S32x128 .f32} (hI : Inv x j.val Q A) {X : FVec Ideal S32x31744 .f32} (hX : IsBlock x j.val X)
    (i : grid0.Coords) (hp : k0_cond1 i = 1#1) (hj : (i 1).val = j.val)
    (hin : ∀ y, Q' ((putRect i hp).emb y) = packed (F := Ideal) X y)
    (hout : ∀ y, y ∉ (putRect i hp).set → Q' y = Q y) : Inv x (j.val + 1) Q' (k0_pay3 (F := Ideal) i X A) :=
  ⟨codes_step (A' := A) hI hX i hp hj hin hout, fun _ r l => by
    rw [tail_lanes_at, hj]
    refine sums_step hI r l _ (Finset.sum_congr rfl fun s _ => ?_)
    have hs : s.val * 128 + l.val < 31744 := by omega
    have ht := is_inside ⟨s.val * 128 + l.val, hs⟩
    rw [hj31, show IntOp.cmpi _ _ _ = _ from ht, ← hj31]
    by_cases hc : j.val * 31744 + (s.val * 128 + l.val) < 1000000
    · rw [if_pos hc, hX r ⟨s.val * 128 + l.val, hs⟩ hc, expAt, dif_pos hc]; rfl
    · rw [if_neg hc, expAt, dif_neg hc]; rfl⟩

/-! ## The result -/

/-- A second-phase call leaves block `j` of the result in the staging buffer. -/
theorem result_at {x : FVec Ideal S32x1000000 .f32} {Q : IVec S32x253952 32} {A : FVec Ideal S32x128 .f32}
    (hI : Inv x 32 Q A) (i : grid0.Coords) (hq : k0_cond4 i = 1#1) (j : Fin 32) (hj : (i 1).val = j.val)
    {Y : FVec Ideal S32x31744 .f32}
    (h0 : ∀ y, Y (quarter0.emb y) = k0_pay10 (F := Ideal) A (fun y => Q ((getRect i hq).emb y)) y)
    (h1 : ∀ y, Y (quarter1.emb y) = k0_pay11 (F := Ideal) A (fun y => Q ((getRect i hq).emb y)) y)
    (h2 : ∀ y, Y (quarter2.emb y) = k0_pay12 (F := Ideal) A (fun y => Q ((getRect i hq).emb y)) y)
    (h3 : ∀ y, Y (quarter3.emb y) = k0_pay4 (F := Ideal) (k0_pay9 (F := Ideal) A) (fun y => Q ((getRect i hq).emb y)) y) :
    IsBlock (G x) j.val Y := by
  have hsum (r : Fin 32) : ∑ l : Fin 128, A (ix2 r l) = ∑ c : Fin 1000000, Ideal.exp (x (ix2 r c)) := by
    rw [Finset.sum_congr rfl fun l _ => hI.sums (by decide) r l, Sums.lanes_sum]
    · refine Finset.sum_congr rfl fun c _ => ?_
      rw [expAt, dif_pos c.isLt]
    · intro c hc; rw [expAt, dif_neg (by omega)]
  have hv (r : Fin 32) (k : Fin 7936) (q : Fin 4) (h : j.val * 31744 + (q.val * 7936 + k.val) < 1000000) :
      decoded (Words.byteAt (shift q) (Q ((getRect i hq).emb (ix2 r k)))) (Ideal.log (∑ l : Fin 128, A (ix2 r l)))
        = G x (ix2 r ⟨j.val * 31744 + (q.val * 7936 + k.val), h⟩) := by
    rw [get_emb i hq j hj, hI.codes j j.isLt r k q h, hsum]; rfl
  intro r y h
  obtain ⟨q, k, hy⟩ : ∃ (q : Fin 4) (k : Fin 7936), y.val = q.val * 7936 + k.val :=
    ⟨⟨y.val / 7936, by omega⟩, ⟨y.val % 7936, by omega⟩, by show y.val = y.val / 7936 * 7936 + y.val % 7936; omega⟩
  obtain ⟨v, hv'⟩ := y
  obtain rfl : v = q.val * 7936 + k.val := hy
  refine Eq.trans ?_ (hv r k q h)
  have hemb (off : ℕ) (inb) (hoff : off = q.val * 7936) :
      (Rect.unit (s := S32x31744) ![0, off] S32x7936.size inb).emb (ix2 r k)
        = (ix2 r ⟨q.val * 7936 + k.val, by omega⟩ : S32x31744.Idx) := by
    funext a
    refine Fin.ext ?_
    rw [Rect.emb_apply]
    fin_cases a
    · show 0 + 1 * r.val = r.val; omega
    · show off + 1 * k.val = q.val * 7936 + k.val; omega
  fin_cases q
  · rw [← hemb 0 inb_S32x31744_S32x7936_0_0 rfl, h0, quarter0_at]; rfl
  · rw [← hemb 7936 inb_S32x31744_S32x7936_0_7936 rfl, h1, quarter1_at]; rfl
  · rw [← hemb 15872 inb_S32x31744_S32x7936_0_15872 rfl, h2, quarter2_at]; rfl
  · rw [← hemb 23808 inb_S32x31744_S32x7936_0_23808 rfl, h3, quarter3_at]; rfl

end Cert.KernelIdeal.Value

end
-- ==== Proof.Blocks.lean ====
/-
  The blocks of the two windows: which columns of the arrays each grid point's block is, and what of it lies inside.
-/
module

public import proofs.«01_k».proof.Proof.Invariant
public import proofs.«01_k».proof.Proof.KernelIdealFrame
public import Idealize.ShloMosaic.Lib.Pipeline.ValueKit

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.SL.Sem
open Idealize.ShloMosaic.Pipeline (Dat Cfg Window)

variable (m : (ℓ : Loc nD τ sig) → Buf (Elt Ideal) ℓ)

/-- A point's block of columns: its second coordinate. -/
theorem block_no : ∀ t : Fin grid0.N, (grid0.coords t 1).val = t.val % 32 := by decide +kernel

/-- The argument's block in the first phase. -/
theorem index_0 : ∀ t : Fin cfg0.N, t.val < 32 → win0_0.index t = ![0, t.val] :=
  (by decide +kernel : ∀ t : Fin grid0.N, _)

/-- The result's block in the second phase. -/
theorem index_1 : ∀ t : Fin cfg0.N, 32 ≤ t.val → win0_1.index t = ![0, t.val - 32] :=
  (by decide +kernel : ∀ t : Fin grid0.N, _)

/-- What of the argument's block lies inside the array, in the first phase. -/
theorem xsize_0 : ∀ t : Fin cfg0.N, t.val < 32 → win0_0.xsize (grid0.coords t) = ![32, min 31744 (1000000 - t.val * 31744)] :=
  (by decide +kernel : ∀ t : Fin grid0.N, _)

/-- What of the result's block lies inside the array, in the second phase. -/
theorem xsize_1 : ∀ t : Fin cfg0.N, 32 ≤ t.val →
    win0_1.xsize (grid0.coords t) = ![32, min 31744 (1000000 - (t.val - 32) * 31744)] :=
  (by decide +kernel : ∀ t : Fin grid0.N, _)

/-- The argument on device `c`. -/
abbrev arg (c : Dev nD) : FVec Ideal S32x1000000 .f32 := m ((c : Thread nD τ).loc main_arg0)

/-- In the first phase the argument's staging buffer holds block `t`, whatever lies past the array's end. -/
theorem fill_isBlock (c : Dev nD) (t : Fin cfg0.N) (ht : t.val < 32) (d : S32x31744.Idx → Elt Ideal .f32) :
    IsBlock (arg m c) t.val (win0_0.fill (grid0.coords t) d (iblk m c 0 t)) := by
  intro r y h
  have hm : win0_0.moved (grid0.coords t) (ix2 r y : S32x31744.Idx) = true := by
    rw [Window.moved_iff]
    intro a
    rw [xsize_0 t ht]
    fin_cases a
    · exact r.isLt
    · show y.val < min 31744 (1000000 - t.val * 31744)
      have := y.isLt
      omega
  unfold Window.fill
  rw [dif_pos hm]
  blk_ext [iblk, V, index_0 t ht]

/-- The result's block `t - 32`, and zero past the array's end. -/
def outBlock (c : Dev nD) (t : Fin cfg0.N) : S32x31744.Idx → Elt Ideal .f32 := fun y =>
  if h : (t.val - 32) * 31744 + (y 1).val < 1000000 then G (arg m c) (ix2 (y 0) ⟨(t.val - 32) * 31744 + (y 1).val, h⟩) else (0 : EReal)

/-- A staging buffer that holds block `t - 32` of the result agrees with `outBlock` on what is written back. -/
theorem cut_outBlock (c : Dev nD) (t : Fin cfg0.N) (ht : 32 ≤ t.val) (Y : S32x31744.Idx → Elt Ideal .f32)
    (hY : IsBlock (G (arg m c)) (t.val - 32) Y) :
    win0_1.fill (grid0.coords t) Y (win0_1.cut (grid0.coords t) (outBlock m c t)) = Y := by
  refine win0_1.fill_congr_cut _ (funext fun y => ?_)
  have hy : (y 1).val < min 31744 (1000000 - (t.val - 32) * 31744) :=
    lt_of_lt_of_eq (y 1).isLt (congrFun (xsize_1 t ht) 1)
  have h : (t.val - 32) * 31744 + (y 1).val < 1000000 := by omega
  show Y (win0_1.xinj _ y) = outBlock m c t (win0_1.xinj _ y)
  unfold outBlock
  rw [dif_pos h]
  refine Eq.trans ?_ (hY _ ⟨(y 1).val, by omega⟩ h)
  refine congrArg Y (funext fun a => ?_)
  fin_cases a <;> rfl

end Cert.KernelIdeal.Value

end
-- ==== Proof.Run.lean ====
/-
  The idealized kernel's run: its result is `G` of its argument.
-/
module

public import proofs.«01_k».proof.Proof.Blocks

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The result's window is left alone in the first phase. -/
theorem idle_1 : ∀ t : Fin cfg0.N, cfg0.idle 1 (cfg0.grid.coords t) = decide (t.val < 32) :=
  (by decide +kernel : ∀ t : Fin grid0.N, _)

/-- What is carried between calls: the two scratch buffers as `Inv` has them, and the core's register. -/
def carried (c : Dev nD) (n : ℕ) : sProp 𝕄 :=
  iprop((∃ Q A, ⌜Inv (arg m c) (min n 32) Q A⌝ ∗ owns (c : Thread nD τ) (Memref.whole cc0_scratch0) fullShare Q
    ∗ owns (c : Thread nD τ) (Memref.whole cc0_scratch1) fullShare A) ∗ (∃ r, prngReg c r))

/-- The run's proof data. -/
abbrev vdat : (p : Fin 1) → (c : Dev nD) → Dat τ (Elt Ideal) Unit ℕ (UR sig nD τ) ℕ cfg0 c :=
  dat m ρ (outBlock m) (fun c t => carried m c t.val)

/-! ## One call -/

/-- A first-phase call keeps what is carried. -/
theorem call_first (c : Dev nD) (E : Set ℕ) (t : Fin cfg0.N) (ht : t.val < 32)
    (a2 : Memref sig .tc .vmem S32x31744 .f32) (h2 : a2.IsWhole) (a3 : Memref sig .tc .vmem S32x31744 .f32) (h3 : a3.IsWhole)
    (a4 : Memref sig .tc .vmem S32x253952 .i32) (h4 : a4.IsWhole) (a5 : Memref sig .tc .vmem S32x128 .f32) (h5 : a5.IsWhole)
    (X Y : S32x31744.Idx → Elt Ideal .f32) (hX : IsBlock (arg m c) t.val X)
    (Q : S32x253952.Idx → Elt Ideal .i32) (A : S32x128.Idx → Elt Ideal .f32) (hI : Inv (arg m c) t.val Q A)
    (K : PUnit → sProp 𝕄) :
    iprop((owns (c : Thread nD τ) a2 fullShare X ∗ owns (c : Thread nD τ) a3 fullShare Y
            ∗ owns (c : Thread nD τ) a4 fullShare Q ∗ owns (c : Thread nD τ) a5 fullShare A)
          ∗ (iprop(owns (c : Thread nD τ) a2 fullShare X ∗ owns (c : Thread nD τ) a3 fullShare Y
            ∗ (∃ Q' A', ⌜Inv (arg m c) (t.val + 1) Q' A'⌝ ∗ owns (c : Thread nD τ) a4 fullShare Q'
                ∗ owns (c : Thread nD τ) a5 fullShare A')) -∗ K ⟨⟩))
      ⊢ wp frame (wpE (defs₀ (F := Ideal)) Variants.none c none) E (cc0_body (grid0.coords t) a2 h2 a3 h3 a4 h4 a5 h5) K := by
  have hb : (grid0.coords t 1).val = (⟨t.val, ht⟩ : Fin 32).val := by
    rw [block_no]; exact Nat.mod_eq_of_lt ht
  rcases phases t with ⟨h31, hp, hl, hl', hq⟩ | ⟨h31, hp, hl, hl', hq⟩ | ⟨h, _, _⟩
  · iintro ⟨H, Hk⟩
    iapply (first c E (grid0.coords t) a2 h2 a3 h3 a4 h4 a5 h5 hp hl hl' hq X Y Q A K)
    isplitl [H]; · iexact H
    iintro ⟨H0, H1, ⟨%Q', %hQ, H2⟩, H3⟩
    iapply Hk
    isplitl [H0]; · iexact H0
    isplitl [H1]; · iexact H1
    iexists Q', _
    isplitr
    · ipureintro; exact inv_first (j := ⟨t.val, ht⟩) h31 hI hX (grid0.coords t) hp hb hQ.1 hQ.2
    isplitl [H2]; · iexact H2
    · iexact H3
  · iintro ⟨H, Hk⟩
    iapply (last c E (grid0.coords t) a2 h2 a3 h3 a4 h4 a5 h5 hp hl hl' hq X Y Q A K)
    isplitl [H]; · iexact H
    iintro ⟨H0, H1, ⟨%Q', %hQ, H2⟩, H3⟩
    iapply Hk
    isplitl [H0]; · iexact H0
    isplitl [H1]; · iexact H1
    iexists Q', _
    isplitr
    · ipureintro; exact inv_last (j := ⟨t.val, ht⟩) h31 hI hX (grid0.coords t) hp hb hQ.1 hQ.2
    isplitl [H2]; · iexact H2
    · iexact H3
  · exact absurd ht (by omega)

/-- A second-phase call leaves its block of the result, and the scratch buffers as they were. -/
theorem call_second (c : Dev nD) (E : Set ℕ) (t : Fin cfg0.N) (ht : 32 ≤ t.val)
    (a2 : Memref sig .tc .vmem S32x31744 .f32) (h2 : a2.IsWhole) (a3 : Memref sig .tc .vmem S32x31744 .f32) (h3 : a3.IsWhole)
    (a4 : Memref sig .tc .vmem S32x253952 .i32) (h4 : a4.IsWhole) (a5 : Memref sig .tc .vmem S32x128 .f32) (h5 : a5.IsWhole)
    (X Y : S32x31744.Idx → Elt Ideal .f32)
    (Q : S32x253952.Idx → Elt Ideal .i32) (A : S32x128.Idx → Elt Ideal .f32) (hI : Inv (arg m c) 32 Q A)
    (K : PUnit → sProp 𝕄) :
    iprop((owns (c : Thread nD τ) a2 fullShare X ∗ owns (c : Thread nD τ) a3 fullShare Y
            ∗ owns (c : Thread nD τ) a4 fullShare Q ∗ owns (c : Thread nD τ) a5 fullShare A)
          ∗ (iprop(owns (c : Thread nD τ) a2 fullShare X
            ∗ (∃ Y', ⌜IsBlock (G (arg m c)) (t.val - 32) Y'⌝ ∗ owns (c : Thread nD τ) a3 fullShare Y')
            ∗ owns (c : Thread nD τ) a4 fullShare Q ∗ owns (c : Thread nD τ) a5 fullShare A) -∗ K ⟨⟩))
      ⊢ wp frame (wpE (defs₀ (F := Ideal)) Variants.none c none) E (cc0_body (grid0.coords t) a2 h2 a3 h3 a4 h4 a5 h5) K := by
  have hN : t.val < 64 := t.isLt
  have hb : (grid0.coords t 1).val = (⟨t.val - 32, by omega⟩ : Fin 32).val := by
    rw [block_no]; show t.val % 32 = t.val - 32; omega
  rcases phases t with ⟨h, _⟩ | ⟨h, _⟩ | ⟨_, hp, hq⟩
  · exact absurd ht (by omega)
  · exact absurd ht (by omega)
  · iintro ⟨H, Hk⟩
    iapply (second c E (grid0.coords t) a2 h2 a3 h3 a4 h4 a5 h5 hp hq X Y Q A K)
    isplitl [H]; · iexact H
    iintro ⟨H0, ⟨%Y', %hY, H1⟩, H2, H3⟩
    iapply Hk
    isplitl [H0]; · iexact H0
    isplitl [H1]
    · iexists Y'
      isplitr
      · ipureintro
        exact result_at hI (grid0.coords t) hq ⟨t.val - 32, by omega⟩ hb hY.1 hY.2.1 hY.2.2.1 hY.2.2.2
      · iexact H1
    isplitl [H2]; · iexact H2
    · iexact H3

theorem body_obligation (c : Dev nD) :
    BodyObligationLoose (vdat m ρ 0 c) (defs₀ (F := Ideal)) Variants.none () Set.univ := fun t => by
  rw [bigSep_W0, bigSep_W0, defs_row]
  simp only
  rw [show idle0 (1 : Fin 2) (grid0.coords t) = decide (t.val < 32) from idle_1 t]
  rw [show (vdat m ρ 0 c).Φ t.succ = carried m c (t.val + 1) from rfl,
    show (vdat m ρ 0 c).Φ t.castSucc = carried m c t.val from rfl,
    show (vdat m ρ 0 c).owesAt () t.succ = (vdat m ρ 0 c).owesAt () t.castSucc from rfl]
  have hx : win0_0.cut (grid0.coords t) ((vdat m ρ 0 c).after (0 : Fin 2) t) = iblk m c 0 t := win0_0.cut_fill _ _ _
  unfold carried
  by_cases ht : t.val < 32
  · rw [decide_eq_true ht, show (win0 (1 : Fin 2)).flush t = false from flush_1 t ht]
    simp only
    iintro ⟨⟨⟨%Q, %A, %hI, HQ, HA⟩, Hr⟩, Ho, ⟨%d0, H0⟩, ⟨%d1, H1⟩⟩
    rw [before_0 m ρ]
    rw [Nat.min_eq_left (Nat.le_of_lt ht)] at hI
    iapply (call_first m c Set.univ t ht _ _ _ _ _ _ _ _
      (win0_0.fill (grid0.coords t) d0 (iblk m c 0 t)) _ (fill_isBlock m c t ht d0) Q A hI _)
    isplitl [H0 H1 HQ HA]
    · isplitl [H0]; · iexact H0
      isplitl [H1]; · iexact H1
      isplitl [HQ]; · iexact HQ
      · iexact HA
    iintro ⟨H0, H1, ⟨%Q', %A', %hI', HQ, HA⟩⟩
    isplitl [HQ HA Hr]
    · isplitl [HQ HA]
      · iexists Q', A'
        isplitr
        · ipureintro; rw [Nat.min_eq_left (show t.val + 1 ≤ 32 from ht)]; exact hI'
        isplitl [HQ]; · iexact HQ
        · iexact HA
      · iexact Hr
    isplitl [Ho]; · iexact Ho
    isplitl [H0]
    · iexists d0
      change _ ⊢ owns (c : Thread nD τ) _ fullShare (win0_0.fill (grid0.coords t) d0 (win0_0.cut (grid0.coords t) ((vdat m ρ 0 c).after (0 : Fin 2) t)))
      rw [hx]
    · iexists d1; iexact H1
  · have ht' : 32 ≤ t.val := Nat.le_of_not_lt ht
    rw [decide_eq_false ht]
    simp only
    iintro ⟨⟨⟨%Q, %A, %hI, HQ, HA⟩, Hr⟩, Ho, ⟨%d0, H0⟩, ⟨%d1, H1⟩⟩
    rw [before_0 m ρ]
    rw [Nat.min_eq_right ht'] at hI
    iapply (call_second m c Set.univ t ht' _ _ _ _ _ _ _ _
      (win0_0.fill (grid0.coords t) d0 (iblk m c 0 t)) _ Q A hI _)
    isplitl [H0 H1 HQ HA]
    · isplitl [H0]; · iexact H0
      isplitl [H1]; · iexact H1
      isplitl [HQ]; · iexact HQ
      · iexact HA
    iintro ⟨H0, ⟨%Y', %hY, H1⟩, HQ, HA⟩
    isplitl [HQ HA Hr]
    · isplitl [HQ HA]
      · iexists Q, A
        isplitr
        · ipureintro; rw [Nat.min_eq_right (show 32 ≤ t.val + 1 by omega)]; exact hI
        isplitl [HQ]; · iexact HQ
        · iexact HA
      · iexact Hr
    isplitl [Ho]; · iexact Ho
    isplitl [H0]
    · iexists d0
      change _ ⊢ owns (c : Thread nD τ) _ fullShare (win0_0.fill (grid0.coords t) d0 (win0_0.cut (grid0.coords t) ((vdat m ρ 0 c).after (0 : Fin 2) t)))
      rw [hx]
    · iexists Y'
      have hy : (win0 (1 : Fin 2)).fill (grid0.coords t) Y' ((win0 (1 : Fin 2)).cut (grid0.coords t) ((vdat m ρ 0 c).after (1 : Fin 2) t)) = Y' :=
        cut_outBlock m c t ht' Y' hY
      rw [hy]
      iexact H1

/-! ## The run -/

/-- Before the first call the scratch buffers hold anything. -/
theorem start (c : Dev nD) : (Pipeline.ΦA spec0 c : sProp 𝕄) ⊢ carried m c 0 := by
  unfold Pipeline.ΦA carried
  rw [scopedRest0_eq]
  simp only [← owns_whole]
  iintro ⟨⟨⟨%Q, HQ⟩, ⟨%A, HA⟩⟩, Hr⟩
  isplitl [HQ HA]
  · iexists Q, A
    isplitr
    · ipureintro; exact inv_zero _ _ _
    isplitl [HQ]; · iexact HQ
    · iexact HA
  · iexact Hr

/-- After the last call what they hold no longer matters. -/
theorem finish (c : Dev nD) : carried m c 64 ⊢ (Pipeline.ΦA spec0 c : sProp 𝕄) := by
  unfold Pipeline.ΦA carried
  rw [scopedRest0_eq]
  simp only [← owns_whole]
  iintro ⟨⟨%Q, %A, -, HQ, HA⟩, Hr⟩
  isplitl [HQ HA]
  · isplitl [HQ]
    · iexists Q; iexact HQ
    · iexists A; iexact HA
  · iexact Hr

/-- The result array after the run. -/
theorem result (c : Dev nD) : (vdat m ρ 0 c).arrAt 1 cfg0.N = G (arg m c) := by
  refine (vdat m ρ 0 c).arrAt_eq_of_covers 1 _ (by decide +kernel) fun t hf y => ?_
  have ht : 32 ≤ t.val := by
    by_contra h
    rw [flush_1 t (by omega)] at hf
    exact Bool.noConfusion hf
  have hy : (y 1).val < min 31744 (1000000 - (t.val - 32) * 31744) :=
    lt_of_lt_of_eq (y 1).isLt (congrFun (xsize_1 t ht) 1)
  show outBlock m c t (win0_1.xinj (grid0.coords t) y) = _
  unfold outBlock
  rw [dif_pos (show (t.val - 32) * 31744 + (y 1).val < 1000000 by omega)]
  refine congrArg (G (arg m c)) ?_
  blk_ext [index_1 t ht]

set_option backward.isDefEq.respectTransparency.types false in
/-- The idealized kernel runs, its result is `G` of its argument and the argument ends unchanged. -/
theorem run : θ_run defs (onTc (τ := τ) (main (F := Ideal))) ⟨m, fun _ => 0, ρ⟩ (fun r => ∀ c : Dev nD,
    r.2.mem ((c.tc : Thread nD τ).loc main_v0) = G (arg m c)
      ∧ r.2.mem ((c.tc : Thread nD τ).loc main_arg0) = m ((c.tc : Thread nD τ).loc main_arg0)) :=
  Pipeline.θ_run_frame_track cfgs (vdat m ρ) 0 launch0 defs₀ Variants.none m ρ main
    (hbody := body_obligation m ρ)
    (hshare := fun c => (vdat m ρ 0 c).share_full fun _ => rfl) (howed := fun _ _ => rfl)
    (V := V m) (hmain := hmain m Variants.none) (hA := fun _ _ => rfl)
    (hin := start m) (hout := finish m)
    (Q' := _) (hQ' := fun r h c => ⟨((h.1 c).1 1).trans (result m ρ c),
      ((h.1 c).1 0).trans ((vdat m ρ 0 c).arrAt_in 0 rfl _)⟩)

end Cert.KernelIdeal.Value

end
-- ==== Proof.LogSumExp.lean ====
/-
  The log-sum-exp of finitely many finite numbers, over the extended reals: it is a finite number, and shifting the
  exponents by a finite number and adding that number back leaves it as it is. The largest of the numbers is finite.
-/
module

public import Idealize.ShloMosaic.Lib.Pointwise

@[expose] public section

noncomputable section

namespace Cert.LogSumExp

open Idealize.ShloMosaic

variable {ι : Type} [Fintype ι] [Nonempty ι]

/-- A sum of finite numbers is the sum of the reals. -/
theorem sum_coe (f : ι → ℝ) : (∑ k, ((f k : ℝ) : EReal)) = ((∑ k, f k : ℝ) : EReal) := by
  classical
  induction (Finset.univ : Finset ι) using Finset.induction_on with
  | empty => simp
  | insert a s ha ih => rw [Finset.sum_insert ha, Finset.sum_insert ha, ih, EReal.coe_add]

/-- The sum of exponentials is positive. -/
theorem sum_exp_pos (f : ι → ℝ) : 0 < ∑ k, Real.exp (f k) :=
  Finset.sum_pos (fun _ _ => Real.exp_pos _) Finset.univ_nonempty

/-- The log-sum-exp of reals is the real one. -/
theorem log_sum_exp (f : ι → ℝ) :
    Ideal.log (∑ k, Ideal.exp ((f k : ℝ) : EReal)) = ((Real.log (∑ k, Real.exp (f k)) : ℝ) : EReal) := by
  simp only [Ideal.exp_coe]
  rw [sum_coe, Ideal.log_coe, if_neg (not_le.mpr (sum_exp_pos f))]

/-- The exponents may be shifted by any real. -/
theorem shifted (f : ι → ℝ) (M : ℝ) :
    ((M : EReal) + Ideal.log (∑ k, Ideal.exp (((f k : ℝ) : EReal) - (M : EReal))) : EReal)
      = ((Real.log (∑ k, Real.exp (f k)) : ℝ) : EReal) := by
  simp only [← EReal.coe_sub]
  rw [log_sum_exp fun k => f k - M, ← EReal.coe_add]
  simp only [Real.exp_sub]
  rw [← Finset.sum_div, Real.log_div (sum_exp_pos f).ne' (Real.exp_pos M).ne', Real.log_exp, add_sub_cancel]

/-- The largest of finite numbers, sought from minus infinity, is finite. -/
theorem fold_max_real {κ : Type} (s : Finset κ) (hs : s.Nonempty) (f : κ → ℝ) :
    ∃ M : ℝ, s.fold max (⊥ : EReal) (fun k => ((f k : ℝ) : EReal)) = (M : EReal) := by
  classical
  induction hs using Finset.Nonempty.cons_induction with
  | singleton a => exact ⟨f a, by rw [Finset.fold_singleton]; exact max_eq_left bot_le⟩
  | cons a s ha _ ih =>
    obtain ⟨M, hM⟩ := ih
    exact ⟨max (f a) M, by rw [Finset.fold_cons, hM]; exact (EReal.coe_strictMono.monotone.map_max).symm⟩

/-- The largest number of each row of a matrix of finite numbers is finite. -/
theorem reduce_max_real {n0 n1 : Nat} [NeZero n1] {t u : Shape} (x : (⟨2, ![n0, n1]⟩ : Shape).Idx → EReal) (init : u.Idx → EReal)
    (h : (⟨2, ![n0, n1]⟩ : Shape).ReducesTo [1] t) (hu : 0 < u.numel) (j : t.Idx) (hx : ∀ i, ∃ r : ℝ, x i = (r : EReal))
    (hi : init (Shape.Idx.first hu) = ⊥) :
    ∃ M : ℝ, Host.reduce (FloatOps.maximumf (F := Ideal) (φ := .f32)) x init h hu j = (M : EReal) := by
  choose f hf using hx
  obtain rfl : x = fun i => ((f i : ℝ) : EReal) := funext hf
  rw [Host.reduce_eq_fold, hi]
  have hne : ix2 ⟨(j ⟨0, h.lt_r2_a1_0⟩).val, Shape.coordLt (j ⟨0, h.lt_r2_a1_0⟩) h.size_r2_a1_0⟩ (0 : Fin n1)
      ∈ Finset.univ.filter fun i => h.drop i = j :=
    Finset.mem_filter.mpr ⟨Finset.mem_univ _, (h.fiber_r2_a1 j _).mpr ⟨0, rfl⟩⟩
  exact fold_max_real _ ⟨_, hne⟩ f

/-- A row's sum, from zero. -/
theorem reduce_sum_at {n0 n1 : Nat} {u : Shape} (y : FVec Ideal ⟨2, ![n0, n1]⟩ .f32) (init : FVec Ideal u .f32)
    (h : (⟨2, ![n0, n1]⟩ : Shape).ReducesTo [1] ⟨1, ![n0]⟩) (hu : 0 < u.numel) (hi : init (Shape.Idx.first hu) = (0 : EReal)) (r : Fin n0) :
    Host.reduceAdd y init h hu (ix1 r) = (∑ k : Fin n1, y (ix2 r k) : EReal) := by
  pointwise
  rw [hi, zero_add]

end Cert.LogSumExp

end
-- ==== Proof.Rounding.lean ====
/-
  The codes of the logits, at finite logits that an 8-bit code of step 1/8 can hold: what a code is read back as, and how
  far that lies from the logit.
-/
module

public import proofs.«01_k».proof.Proof.Payloads

@[expose] public section

noncomputable section

namespace Cert.Rounding

open Idealize.ShloMosaic Cert.KernelIdeal.Value

/-! The constants of the programs. -/

theorem bits_8 : Ideal.ofBits .f32 0x41000000#32 = ((8 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_16 : Ideal.ofBits .f32 0x41800000#32 = ((16 : ℝ) : EReal) := by
  simp [Ideal.ofBits, Ideal.ieee, -EReal.coe_mul]; norm_num
theorem bits_range : Ideal.ofBits .f32 0x417F0000#32 = ((255 / 16 : ℝ) : EReal) := by
  simp [Ideal.ofBits, Ideal.ieee, -EReal.coe_mul]; norm_num
theorem bits_sixteenth : Ideal.ofBits .f32 0x3D800000#32 = ((1 / 16 : ℝ) : EReal) := by
  simp [Ideal.ofBits, Ideal.ieee, -EReal.coe_mul]; norm_num
theorem bits_bot : Ideal.ofBits .f32 0xFF800000#32 = (⊥ : EReal) := by
  simp [Ideal.ofBits, Ideal.ieee]

/-- The logit's place among the steps of 1/8. -/
def step (r : ℝ) : ℤ := ⌊r * 8 + 1 / 2⌋

/-- A logit in range has a code that is not cut off. -/
theorem step_range {r : ℝ} (h : |r| < 255 / 16) : -127 ≤ step r ∧ step r ≤ 127 := by
  obtain ⟨h1, h2⟩ := abs_lt.mp h
  unfold step
  constructor
  · rw [Int.le_floor]; push_cast; linarith
  · have : ⌊r * 8 + 1 / 2⌋ < 128 := by rw [Int.floor_lt]; push_cast; linarith
    omega

/-- A logit lies within half a step of its rounding. -/
theorem step_near (r : ℝ) : |(step r : ℝ) / 8 - r| ≤ 1 / 16 := by
  have h1 := Int.floor_le (r * 8 + 1 / 2)
  have h2 := Int.lt_floor_add_one (r * 8 + 1 / 2)
  rw [abs_le]; unfold step
  constructor <;> linarith

/-- The rounding that both programs compute. -/
theorem lift_floor (r : ℝ) :
    Ideal.liftRound Int.floor ((r : EReal) * Ideal.ofBits .f32 0x41000000#32 + Ideal.ofBits .f32 0x3F000000#32)
      = (((step r : ℤ) : ℝ) : EReal) := by
  rw [bits_8, bits_half, ← EReal.coe_mul, ← EReal.coe_add, Ideal.liftRound_coe]; rfl

/-- A whole number of 32 bits, converted to a word. -/
theorem fptosi_int (z : ℤ) (h1 : -127 ≤ z) (h2 : z ≤ 127) : Ideal.fptosi 32 ((z : ℝ) : EReal) = BitVec.ofInt 32 z := by
  unfold Ideal.fptosi
  rw [Ideal.toIntClamped_coe]
  simp only [Int.floor_intCast, Int.ceil_intCast, ite_self]
  congr 1
  norm_num
  omega

/-- A word of a step, moved up by 128 and cut to its low byte. -/
theorem word_toInt (z : ℤ) (h1 : -127 ≤ z) (h2 : z ≤ 127) :
    (IntOp.andi (IntOp.addi (BitVec.ofInt 32 z) 128#32) 255#32).toInt = z + 128 := by
  obtain ⟨n, hn, hz⟩ : ∃ n : ℕ, n < 256 ∧ z + 128 = n := ⟨(z + 128).toNat, by omega, by omega⟩
  have e : IntOp.addi (BitVec.ofInt 32 z) 128#32 = BitVec.ofNat 32 n := by
    unfold IntOp.addi
    rw [show (128#32) = BitVec.ofInt 32 128 from rfl, ← BitVec.ofInt_add, hz, BitVec.ofInt_natCast]
  rw [e, hz]
  unfold IntOp.andi
  rw [BitVec.toInt_eq_toNat_of_lt]
  · simp only [BitVec.toNat_and, BitVec.toNat_ofNat]
    rw [Nat.mod_eq_of_lt (by omega), Nat.mod_eq_of_lt (by omega), show 255 = 2 ^ 8 - 1 from rfl, Nat.and_two_pow_sub_one_eq_mod,
      Nat.mod_eq_of_lt (by omega)]
  · simp only [BitVec.toNat_and, BitVec.toNat_ofNat]
    have := Nat.and_le_right (n := n % 2 ^ 32) (m := 255 % 2 ^ 32)
    omega

/-- The code of a logit in range: its step, plus 128. -/
theorem code_toInt {r : ℝ} (h : |r| < 255 / 16) : (code (r : EReal)).toInt = step r + 128 := by
  obtain ⟨h1, h2⟩ := step_range h
  unfold code
  rw [lift_floor, fptosi_int _ h1 h2, word_toInt _ h1 h2]

/-- A code read back: the logit rounded to the nearest eighth, less the log-sum-exp. -/
theorem decoded_code {r : ℝ} (h : |r| < 255 / 16) (L : ℝ) :
    decoded (code (r : EReal)) (L : EReal) = (((step r : ℝ) / 8 - L : ℝ) : EReal) := by
  unfold decoded
  rw [code_toInt h, bits_eighth, bits_16, ← EReal.coe_mul, ← EReal.coe_add, ← EReal.coe_sub]
  congr 1
  push_cast
  ring

/-- A logit of magnitude below 255/16 is a real one. -/
theorem real_of_range {x : EReal} (h : max x (-x) < ((255 / 16 : ℝ) : EReal)) : ∃ r : ℝ, x = (r : EReal) ∧ |r| < 255 / 16 := by
  induction x with
  | bot => simp at h
  | top => simp at h
  | coe r =>
    refine ⟨r, rfl, ?_⟩
    obtain ⟨h1, h2⟩ := max_lt_iff.mp h
    rw [← EReal.coe_neg] at h2
    exact abs_lt.mpr ⟨by linarith [EReal.coe_lt_coe_iff.mp h2], EReal.coe_lt_coe_iff.mp h1⟩

end Cert.Rounding

end
-- ==== Proof.Reference.lean ====
/-
  The reference's result, and the bound that the result is claimed to keep, each read at one index over the extended
  reals.
-/
module

public import proofs.«01_k».proof.Proof.Gen.ReferenceIdeal.Run
public import proofs.«01_k».proof.Proof.Gen.Pre_in_range
public import proofs.«01_k».proof.Proof.Gen.Post_within_a_sixteenth
public import proofs.«01_k».proof.Proof.LogSumExp
public import proofs.«01_k».proof.Proof.Rounding
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

/-- Each row's largest logit. -/
def rowMax (x : FVec Ideal S32x1000000 .f32) : FVec Ideal S32x1 .f32 :=
  broadcastInDim S32x1 ![0] bcast_S32_S32x1_0
    (Host.reduce FloatOps.maximumf x (constant S_ .f32 0xFF800000#32) reducesTo_S32x1000000_S32_d1 h_S_)

/-- Each row's log-sum-exp, its exponents shifted by the row's largest logit. -/
def rowLse (x : FVec Ideal S32x1000000 .f32) : FVec Ideal S32x1 .f32 :=
  addf (rowMax x) (Host.log (broadcastInDim S32x1 ![0] bcast_S32_S32x1_0
    (Host.reduceAdd (Host.exp (subf x (broadcastInDim S32x1000000 ![0, 1] bcast_S32x1_S32x1000000_0_1 (rowMax x))))
      (constant S_ .f32 0x00000000#32) reducesTo_S32x1000000_S32_d1 h_S_)))

/-- The logits rounded to the nearest eighth. -/
def rounded (x : FVec Ideal S32x1000000 .f32) : FVec Ideal S32x1000000 .f32 :=
  Host.divf (Host.floor (addf (mulf x (broadcastInDim S32x1000000 ![] bcast_S_S32x1000000 (constant S_ .f32 0x41000000#32)))
      (broadcastInDim S32x1000000 ![] bcast_S_S32x1000000 (constant S_ .f32 0x3F000000#32))))
    (broadcastInDim S32x1000000 ![] bcast_S_S32x1000000 (constant S_ .f32 0x41000000#32))

/-- Logits `y` less the log-sum-exp of the rows of `x`. -/
def lessLse (y x : FVec Ideal S32x1000000 .f32) : FVec Ideal S32x1000000 .f32 :=
  subf y (broadcastInDim S32x1000000 ![0, 1] bcast_S32x1_S32x1000000_0_1 (rowLse x))

/-- A row's largest logit is finite where the row is. -/
theorem rowMax_real (x : FVec Ideal S32x1000000 .f32) (hx : ∀ i, ∃ r : ℝ, x i = (r : EReal)) (r : Fin 32) :
    ∃ M : ℝ, rowMax x (ix2 r 0) = (M : EReal) := by
  have hv : ∀ j, ∃ M : ℝ,
      Host.reduce FloatOps.maximumf x (constant S_ .f32 0xFF800000#32) reducesTo_S32x1000000_S32_d1 h_S_ j = (M : EReal) :=
    fun j => LogSumExp.reduce_max_real x _ reducesTo_S32x1000000_S32_d1 h_S_ j hx Rounding.bits_bot
  unfold rowMax
  generalize Host.reduce FloatOps.maximumf x (constant S_ .f32 0xFF800000#32) reducesTo_S32x1000000_S32_d1 h_S_ = v at hv ⊢
  pointwise
  exact hv _

/-- The exponential of a shifted logit. -/
theorem exp_at (x : FVec Ideal S32x1000000 .f32) (v : FVec Ideal S32x1 .f32) (r : Fin 32) (k : Fin 1000000) :
    Host.exp (subf x (broadcastInDim S32x1000000 ![0, 1] bcast_S32x1_S32x1000000_0_1 v)) (ix2 r k)
      = Ideal.exp (x (ix2 r k) - v (ix2 r 0) : EReal) := by
  pointwise

/-- A row's log-sum-exp from its largest logit and the row's sum. -/
theorem log_at (v : FVec Ideal S32x1 .f32) (w : FVec Ideal S32 .f32) (r : Fin 32) :
    addf v (Host.log (broadcastInDim S32x1 ![0] bcast_S32_S32x1_0 w)) (ix2 r 0)
      = (v (ix2 r 0) + Ideal.log (w (ix1 r)) : EReal) := by
  pointwise

theorem rowLse_at (x : FVec Ideal S32x1000000 .f32) (r : Fin 32) :
    rowLse x (ix2 r 0)
      = (rowMax x (ix2 r 0) + Ideal.log (∑ k : Fin 1000000, Ideal.exp (x (ix2 r k) - rowMax x (ix2 r 0))) : EReal) := by
  unfold rowLse
  rw [log_at, LogSumExp.reduce_sum_at _ _ reducesTo_S32x1000000_S32_d1 h_S_ Ideal.ofBits_zero_f32 r]
  exact congrArg (fun s : EReal => rowMax x (ix2 r 0) + Ideal.log s) (Finset.sum_congr rfl fun k _ => exp_at x (rowMax x) r k)

theorem rounded_at (x : FVec Ideal S32x1000000 .f32) (r : Fin 32) (k : Fin 1000000) :
    rounded x (ix2 r k)
      = Ideal.div (Ideal.liftRound Int.floor (x (ix2 r k) * Ideal.ofBits .f32 0x41000000#32 + Ideal.ofBits .f32 0x3F000000#32))
          (Ideal.ofBits .f32 0x41000000#32) := by
  pointwise [rounded]

theorem lessLse_at (y x : FVec Ideal S32x1000000 .f32) (r : Fin 32) (k : Fin 1000000) :
    lessLse y x (ix2 r k) = (y (ix2 r k) - rowLse x (ix2 r 0) : EReal) := by
  pointwise [lessLse]

/-- The precondition at one index. -/
theorem pre_at (x : FVec Ideal S32x1000000 .f32) (r : Fin 32) (k : Fin 1000000) :
    Cert.Pre_in_range.fn x (ix2 r k)
      = BitVec.ofBool (decide (FloatOps.absf (φ := .f32) (x (ix2 r k)) < Ideal.ofBits .f32 0x417F0000#32)) := by
  pointwise [Cert.Pre_in_range.fn]

/-- What is claimed of a result `y`, at one index. -/
theorem post_at (x y : FVec Ideal S32x1000000 .f32) (r : Fin 32) (k : Fin 1000000) :
    Cert.Post_within_a_sixteenth.fn x y (ix2 r k)
      = BitVec.ofBool (decide (FloatOps.absf (φ := .f32) (y (ix2 r k) - lessLse x x (ix2 r k) : EReal)
          ≤ Ideal.ofBits .f32 0x3D800000#32)) := by
  have e : Cert.Post_within_a_sixteenth.fn (F := Ideal) x y
      = cmpf .ole (Host.absf (subf y (lessLse x x)))
          (broadcastInDim S32x1000000 ![] bcast_S_S32x1000000 (constant S_ .f32 0x3D800000#32)) := rfl
  rw [e]
  generalize lessLse x x = v
  pointwise

end Cert.ReferenceIdeal.Value

end
-- ==== Proof.Compare.lean ====
/-
  The kernel's result against the reference's, and against the exact normalised logits, at logits in range.
-/
module

public import proofs.«01_k».proof.Proof.Run
public import proofs.«01_k».proof.Proof.Reference

@[expose] public section

noncomputable section

namespace Cert.Compare

open Idealize.ShloMosaic Cert.KernelIdeal Cert.KernelIdeal.Value Cert.ReferenceIdeal.Value

variable (x : FVec Ideal S32x1000000 .f32)

/-- What the precondition says: every logit is a real of magnitude below 255/16. -/
def InRange : Prop := ∀ i, ∃ r : ℝ, x i = (r : EReal) ∧ |r| < 255 / 16

variable {x}

/-- An index of the array is a row and a column. -/
theorem row_column (i : S32x1000000.Idx) : ∃ (r : Fin 32) (k : Fin 1000000), i = ix2 r k := by
  refine ⟨i 0, i 1, ?_⟩
  funext a
  match a with
  | ⟨0, _⟩ => rfl
  | ⟨1, _⟩ => rfl

/-- The precondition, as printed, says it. -/
theorem inRange_of_pre (h : Cert.Pre_in_range.fn (F := Ideal) x = fun _ => 1#1) : InRange x := by
  intro i
  obtain ⟨r, k, rfl⟩ := row_column i
  have hi := (pre_at x r k).symm.trans (congrFun h _)
  rw [Rounding.bits_range] at hi
  refine Rounding.real_of_range ?_
  by_contra hn
  rw [show (FloatOps.absf (φ := .f32) (x (ix2 r k)) : EReal) = max (x (ix2 r k)) (-x (ix2 r k)) from rfl, decide_eq_false hn] at hi
  exact absurd hi (by decide)

/-- A row's log-sum-exp is a real, which the kernel finds with its exponents unshifted and the reference with them
    shifted by the row's largest logit. -/
theorem lse (h : InRange x) (r : Fin 32) :
    ∃ L : ℝ, Ideal.log (∑ k : Fin 1000000, Ideal.exp (x (ix2 r k))) = (L : EReal) ∧ rowLse x (ix2 r 0) = (L : EReal) := by
  obtain ⟨M, hM⟩ := rowMax_real x (fun i => (h i).imp fun _ => And.left) r
  choose f hf _ using h
  refine ⟨Real.log (∑ k : Fin 1000000, Real.exp (f (ix2 r k))), ?_, ?_⟩
  · simp only [hf]
    exact LogSumExp.log_sum_exp fun k : Fin 1000000 => f (ix2 r k)
  · rw [rowLse_at, hM]
    simp only [hf]
    exact LogSumExp.shifted (fun k : Fin 1000000 => f (ix2 r k)) M

/-- The kernel's result at a logit in range. -/
theorem kernel_at (r : Fin 32) (k : Fin 1000000) {a L : ℝ} (ha : x (ix2 r k) = (a : EReal)) (hr : |a| < 255 / 16)
    (hL : Ideal.log (∑ c : Fin 1000000, Ideal.exp (x (ix2 r c))) = (L : EReal)) :
    G x (ix2 r k) = (((Rounding.step a : ℝ) / 8 - L : ℝ) : EReal) := by
  show decoded (code (x (ix2 r k))) (Ideal.log (∑ c : Fin 1000000, Ideal.exp (x (ix2 r c)))) = _
  rw [ha, hL, Rounding.decoded_code hr]

/-- The reference computes what the kernel does. -/
theorem reference_eq (h : InRange x) : lessLse (rounded x) x = G x := by
  funext i
  obtain ⟨r, k, rfl⟩ := row_column i
  obtain ⟨a, ha, hr⟩ := h (ix2 r k)
  obtain ⟨L, hL, hL'⟩ := lse h r
  rw [kernel_at r k ha hr hL, lessLse_at, hL', rounded_at, ha, Rounding.lift_floor, Rounding.bits_8,
    Ideal.div_coe (by norm_num), ← EReal.coe_mul, ← EReal.coe_sub, mul_one_div]

/-- The kernel's result lies within a sixteenth of the exact normalised logits. -/
theorem post (h : InRange x) : Cert.Post_within_a_sixteenth.fn (F := Ideal) x (G x) = fun _ => 1#1 := by
  funext i
  obtain ⟨r, k, rfl⟩ := row_column i
  obtain ⟨a, ha, hr⟩ := h (ix2 r k)
  obtain ⟨L, hL, hL'⟩ := lse h r
  rw [post_at, kernel_at r k ha hr hL, lessLse_at, hL', ha, Rounding.bits_sixteenth, ← EReal.coe_sub, ← EReal.coe_sub,
    decide_eq_true]
  · rfl
  · have hn := abs_le.mp (Rounding.step_near a)
    show max _ (-_) ≤ _
    rw [← EReal.coe_neg]
    exact max_le (EReal.coe_le_coe_iff.mpr (by linarith)) (EReal.coe_le_coe_iff.mpr (by linarith))

end Cert.Compare

end
-- ==== Proof.lean ====
/-
  The claims, assembled: the programs' frames, the kernel's result against the reference's, and its distance from the
  exact normalised logits.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Post_within_a_sixteenth
public import proofs.«01_k».proof.Proof.KernelFrame
public import proofs.«01_k».proof.Proof.KernelIdealFrame
public import proofs.«01_k».proof.Proof.Run
public import proofs.«01_k».proof.Proof.Compare
public import Idealize.ShloMosaic.Lib.Claim

@[expose] public section

noncomputable section

namespace Cert.Proof

open Idealize.ShloMosaic Idealize.SL.Sem

/-- Under the precondition the kernel and the reference end with the same array. -/
theorem algebraic : Cert.algebraic_KernelIdeal_ReferenceIdeal_pre_in_range := by
  intro m g m' g' hpre harg
  refine ⟨fun c => Cert.KernelIdeal.Value.G (Cert.KernelIdeal.Value.arg m c), Cert.KernelIdeal.Value.run m g, ?_⟩
  refine (θ_run _ _ _).mono (fun _ h c => ⟨?_, (h c).2⟩) (Cert.ReferenceIdeal.Value.run (F := Ideal) m' g')
  refine (h c).1.trans ?_
  rw [harg c]
  exact Cert.Compare.reference_eq (Cert.Compare.inRange_of_pre (hpre c))

/-- Under the precondition the kernel's result lies within a sixteenth of the exact normalised logits. -/
theorem holds : Cert.holds_KernelIdeal_within_a_sixteenth_pre_in_range := by
  intro m g hpre
  refine (θ_run _ _ _).mono (fun _ h c => ?_) (Cert.KernelIdeal.Value.run m g)
  refine ⟨(h c).2, ?_⟩
  rw [(h c).1]
  exact Cert.Compare.post (Cert.Compare.inRange_of_pre (hpre c))

/-- The reference runs, its argument ends unchanged, and it has no semaphore whose counter could differ from zero. -/
theorem reference_frame : Cert.quiescent_ReferenceIdeal := fun m g _ =>
  (θ_run _ _ _).mono (fun r h => ⟨fun c => (h c).2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Pre_in_range.Gen.facts,
    Cert.Post_within_a_sixteenth.Gen.facts,
    fun m g _ => Cert.Kernel.Body.run_frame m g,
    fun m g _ => Cert.KernelIdeal.Body.run_frame m g,
    fun m g _ => Cert.KernelIdeal.Body.run_frame m g,
    reference_frame,
    fun m g _ => reference_frame m g (by trivial),
    trivial, algebraic, holds⟩

end Cert.Proof

end
